-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_flippable [hPre_flippable : Cert.Pre_flippable.Facts] (m : (ℓ : Loc Cert.KernelIdeal.nD Cert.KernelIdeal.τ Cert.KernelIdeal.sig) → Buf (Elt Ideal) ℓ) : Prop :=
  ∀ c : Dev Cert.KernelIdeal.nD,
    (Cert.Pre_flippable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_flippable [hPre_flippable : Cert.Pre_flippable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_flippable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_flippable [hKernelIdeal : Cert.KernelIdeal.Facts] [hPre_flippable : Cert.Pre_flippable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_flippable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_flippable [hReferenceIdeal : Cert.ReferenceIdeal.Facts] [hPre_flippable : Cert.Pre_flippable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_flippable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_flippable [hKernelIdeal : Cert.KernelIdeal.Facts] [hReferenceIdeal : Cert.ReferenceIdeal.Facts] [hPre_flippable : Cert.Pre_flippable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_flippable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_flippable : Cert.Pre_flippable.Facts),
    quiescent_Kernel (hKernel := hKernel)
    ∧ quiescent_KernelIdeal (hKernelIdeal := hKernelIdeal)
    ∧ quiescent_KernelIdeal_pre_flippable (hKernelIdeal := hKernelIdeal) (hPre_flippable := hPre_flippable)
    ∧ quiescent_ReferenceIdeal (hReferenceIdeal := hReferenceIdeal)
    ∧ quiescent_ReferenceIdeal_pre_flippable (hReferenceIdeal := hReferenceIdeal) (hPre_flippable := hPre_flippable)
    ∧ preserves_Kernel_KernelIdeal
    ∧ algebraic_KernelIdeal_ReferenceIdeal_pre_flippable (hKernelIdeal := hKernelIdeal) (hReferenceIdeal := hReferenceIdeal) (hPre_flippable := hPre_flippable)
-- ==== Pre_flippable.lean ====
abbrev S64x4096 : Shape := ⟨2, ![64, 4096]⟩
abbrev S4096x64 : Shape := ⟨2, ![4096, 64]⟩
abbrev S64 : Shape := ⟨1, ![64]⟩
abbrev S64x128 : Shape := ⟨2, ![64, 128]⟩
abbrev S_ : Shape := ⟨0, ![]⟩
abbrev S10x64 : Shape := ⟨2, ![10, 64]⟩

class Facts : Prop where
  slices_S64x4096_S64x128_0_0 : S64x4096.Slices ![0, 0] S64x128
  bcast_S_S64x128 : S_.BroadcastsInDim S64x128 (![] : Fin 0 → Fin S64x128.rank)
  reducesTo_S64x128_S_d0_1 : S64x128.ReducesTo [0, 1] S_
  h_S_ : 0 < S_.numel
  slices_S4096x64_S10x64_0_0 : S4096x64.Slices ![0, 0] S10x64
  bcast_S_S10x64 : S_.BroadcastsInDim S10x64 (![] : Fin 0 → Fin S10x64.rank)
  reducesTo_S10x64_S_d0_1 : S10x64.ReducesTo [0, 1] S_

variable [Facts]

def fn {F : FTy → Type} [FloatOps F] (main_arg0 : FVec F S64x4096 .f32) (main_arg1 : FVec F S4096x64 .f32) (main_arg2 : FVec F S64 .f32) : IVec S_ 1 :=
  let main_v0 : FVec F S64x128 .f32 := (extractStridedSlice S64x128 ![0, 0] · slices_S64x4096_S64x128_0_0) main_arg0
  let main_v1 : FVec F S64x128 .f32 := Host.absf main_v0
  let main_cst : FVec F S_ .f32 := constant S_ .f32 0x7F800000#32
  let main_v2 : FVec F S64x128 .f32 := broadcastInDim S64x128 ![] bcast_S_S64x128 main_cst
  let main_v3 : IVec S64x128 1 := cmpf .olt main_v1 main_v2
  let main_c : IVec S_ 1 := constantI S_ 1 1#1
  let main_v4 : IVec S_ 1 := (fun x v => Host.reduce IntOp.andi x v reducesTo_S64x128_S_d0_1 h_S_) main_v3 main_c
  let main_v5 : FVec F S10x64 .f32 := (extractStridedSlice S10x64 ![0, 0] · slices_S4096x64_S10x64_0_0) main_arg1
  let main_v6 : FVec F S10x64 .f32 := Host.absf main_v5
  let main_cst_0 : FVec F S_ .f32 := constant S_ .f32 0x7F800000#32
  let main_v7 : FVec F S10x64 .f32 := broadcastInDim S10x64 ![] bcast_S_S10x64 main_cst_0
  let main_v8 : IVec S10x64 1 := cmpf .olt main_v6 main_v7
  let main_c_1 : IVec S_ 1 := constantI S_ 1 1#1
  let main_v9 : IVec S_ 1 := (fun x v => Host.reduce IntOp.andi x v reducesTo_S10x64_S_d0_1 h_S_) main_v8 main_c_1
  let main_v10 : IVec S_ 1 := andi main_v4 main_v9
  main_v10
-- ==== Kernel.lean ====
abbrev S64x4096 : Shape := ⟨2, ![64, 4096]⟩
abbrev S4096x64 : Shape := ⟨2, ![4096, 64]⟩
abbrev S64 : Shape := ⟨1, ![64]⟩
abbrev S256x128 : Shape := ⟨2, ![256, 128]⟩
abbrev S1x64 : Shape := ⟨2, ![1, 64]⟩
abbrev S64x64 : Shape := ⟨2, ![64, 64]⟩
abbrev S4096 : Shape := ⟨1, ![4096]⟩
abbrev S1x4096 : Shape := ⟨2, ![1, 4096]⟩
abbrev S64x128 : Shape := ⟨2, ![64, 128]⟩
abbrev S64x64x128 : Shape := ⟨3, ![64, 64, 128]⟩
abbrev S64x64x1 : Shape := ⟨3, ![64, 64, 1]⟩
abbrev S64x1x128 : Shape := ⟨3, ![64, 1, 128]⟩
abbrev S1x64x128 : Shape := ⟨3, ![1, 64, 128]⟩
abbrev S4096x128 : Shape := ⟨2, ![4096, 128]⟩
abbrev S64x1 : Shape := ⟨2, ![64, 1]⟩
abbrev S64x3968 : Shape := ⟨2, ![64, 3968]⟩

abbrev nBuf : Space → Nat
  | .hbm => 10
  | .vmem => 5
  | .smem => 0
  | _ => 0

abbrev bufTy : (tb : Table) → Fin (tcTables nBuf tb) → BufTy
  | .hbm, ⟨0, _⟩ => ⟨S64x4096, .f32⟩
  | .hbm, ⟨1, _⟩ => ⟨S4096x64, .f32⟩
  | .hbm, ⟨2, _⟩ => ⟨S64, .f32⟩
  | .hbm, ⟨3, _⟩ => ⟨S256x128, .f32⟩
  | .hbm, ⟨4, _⟩ => ⟨S64x4096, .f32⟩
  | .hbm, ⟨5, _⟩ => ⟨S1x64, .f32⟩
  | .hbm, ⟨6, _⟩ => ⟨S64x64, .f32⟩
  | .hbm, ⟨7, _⟩ => ⟨S4096, .f32⟩
  | .hbm, ⟨8, _⟩ => ⟨S1x4096, .f32⟩
  | .hbm, ⟨9, _⟩ => ⟨S64x4096, .f32⟩
  | .local _ .vmem, ⟨0, _⟩ => ⟨S64x4096, .f32⟩
  | .local _ .vmem, ⟨1, _⟩ => ⟨S64x4096, .f32⟩
  | .local _ .vmem, ⟨2, _⟩ => ⟨S1x4096, .f32⟩
  | .local _ .vmem, ⟨3, _⟩ => ⟨S256x128, .f32⟩
  | .local _ .vmem, ⟨4, _⟩ => ⟨S64x4096, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S64x4096 : Shape := ⟨2, ![64, 4096]⟩
abbrev S4096x64 : Shape := ⟨2, ![4096, 64]⟩
abbrev S64 : Shape := ⟨1, ![64]⟩
abbrev S56x10 : Shape := ⟨2, ![56, 10]⟩
abbrev S64x10 : Shape := ⟨2, ![64, 10]⟩
abbrev S64x56 : Shape := ⟨2, ![64, 56]⟩
abbrev S_ : Shape := ⟨0, ![]⟩
abbrev S1x56x10 : Shape := ⟨3, ![1, 56, 10]⟩
abbrev S64x1x10 : Shape := ⟨3, ![64, 1, 10]⟩
abbrev S64x56x10 : Shape := ⟨3, ![64, 56, 10]⟩
abbrev S64x4086 : Shape := ⟨2, ![64, 4086]⟩
abbrev S64x1x4086 : Shape := ⟨3, ![64, 1, 4086]⟩
abbrev S64x56x4086 : Shape := ⟨3, ![64, 56, 4086]⟩
abbrev S64x56x4096 : Shape := ⟨3, ![64, 56, 4096]⟩
abbrev S3584x4096 : Shape := ⟨2, ![3584, 4096]⟩
abbrev S3584x64 : Shape := ⟨2, ![3584, 64]⟩
abbrev S3584 : Shape := ⟨1, ![3584]⟩
abbrev S64x1 : Shape := ⟨2, ![64, 1]⟩
abbrev S1x56 : Shape := ⟨2, ![1, 56]⟩
abbrev S64x56x1 : Shape := ⟨3, ![64, 56, 1]⟩

abbrev nBuf : Space → Nat
  | .hbm => 61
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x64, .f32⟩
  | .hbm, ⟨2, _⟩ => ⟨S64, .f32⟩
  | .hbm, ⟨3, _⟩ => ⟨S56x10, .f32⟩
  | .hbm, ⟨4, _⟩ => ⟨S64x10, .f32⟩
  | .hbm, ⟨5, _⟩ => ⟨S64x56, .f32⟩
  | .hbm, ⟨6, _⟩ => ⟨S64x10, .f32⟩
  | .hbm, ⟨7, _⟩ => ⟨S_, .f32⟩
  | .hbm, ⟨8, _⟩ => ⟨S64x10, .f32⟩
  | .hbm, ⟨9, _⟩ => ⟨S64x10, .f32⟩
  | .hbm, ⟨10, _⟩ => ⟨S64x10, .f32⟩
  | .hbm, ⟨11, _⟩ => ⟨S_, .f32⟩
  | .hbm, ⟨12, _⟩ => ⟨S64x10, .f32⟩
  | .hbm, ⟨13, _⟩ => ⟨S64x10, .f32⟩
  | .hbm, ⟨14, _⟩ => ⟨S64x10, .f32⟩
  | .hbm, ⟨15, _⟩ => ⟨S64x10, .f32⟩
  | .hbm, ⟨16, _⟩ => ⟨S1x56x10, .f32⟩
  | .hbm, ⟨17, _⟩ => ⟨S64x1x10, .f32⟩
  | .hbm, ⟨18, _⟩ => ⟨S_, .f32⟩
  | .hbm, ⟨19, _⟩ => ⟨S64x1x10, .f32⟩
  | .hbm, ⟨20, _⟩ => ⟨S64x1x10, .f32⟩
  | .hbm, ⟨21, _⟩ => ⟨S64x56x10, .f32⟩
  | .hbm, ⟨22, _⟩ => ⟨S64x56x10, .f32⟩
  | .hbm, ⟨23, _⟩ => ⟨S64x56x10, .f32⟩
  | .hbm, ⟨24, _⟩ => ⟨S1x56x10, .f32⟩
  | .hbm, ⟨25, _⟩ => ⟨S_, .f32⟩
  | .hbm, ⟨26, _⟩ => ⟨S1x56x10, .f32⟩
  | .hbm, ⟨27, _⟩ => ⟨S1x56x10, .f32⟩
  | .hbm, ⟨28, _⟩ => ⟨S64x1x10, .f32⟩
  | .hbm, ⟨29, _⟩ => ⟨S64x56x10, .f32⟩
  | .hbm, ⟨30, _⟩ => ⟨S64x56x10, .f32⟩
  | .hbm, ⟨31, _⟩ => ⟨S64x56x10, .f32⟩
  | .hbm, ⟨32, _⟩ => ⟨S64x56x10, .f32⟩
  | .hbm, ⟨33, _⟩ => ⟨S64x4086, .f32⟩
  | .hbm, ⟨34, _⟩ => ⟨S64x1x4086, .f32⟩
  | .hbm, ⟨35, _⟩ => ⟨S64x56x4086, .f32⟩
  | .hbm, ⟨36, _⟩ => ⟨S64x56x4096, .f32⟩
  | .hbm, ⟨37, _⟩ => ⟨S3584x4096, .f32⟩
  | .hbm, ⟨38, _⟩ => ⟨S3584x64, .f32⟩
  | .hbm, ⟨39, _⟩ => ⟨S_, .f32⟩
  | .hbm, ⟨40, _⟩ => ⟨S3584x64, .f32⟩
  | .hbm, ⟨41, _⟩ => ⟨S3584x64, .f32⟩
  | .hbm, ⟨42, _⟩ => ⟨S3584, .f32⟩
  | .hbm, ⟨43, _⟩ => ⟨S64x56, .f32⟩
  | .hbm, ⟨44, _⟩ => ⟨S64x56, .f32⟩
  | .hbm, ⟨45, _⟩ => ⟨S64x56, .i32⟩
  | .hbm, ⟨46, _⟩ => ⟨S_, .f32⟩
  | .hbm, ⟨47, _⟩ => ⟨S_, .i32⟩
  | .hbm, ⟨48, _⟩ => ⟨S64, .f32⟩
  | .hbm, ⟨49, _⟩ => ⟨S64, .i32⟩
  | .hbm, ⟨50, _⟩ => ⟨S64x1, .i32⟩
  | .hbm, ⟨51, _⟩ => ⟨S1x56, .i32⟩
  | .hbm, ⟨52, _⟩ => ⟨S64x56, .i32⟩
  | .hbm, ⟨53, _⟩ => ⟨S64x56, .i32⟩
  | .hbm, ⟨54, _⟩ => ⟨S64x56, .i1⟩
  | .hbm, ⟨55, _⟩ => ⟨S64x56, .f32⟩
  | .hbm, ⟨56, _⟩ => ⟨S64x56x1, .f32⟩
  | .hbm, ⟨57, _⟩ => ⟨S64x56x4096, .f32⟩
  | .hbm, ⟨58, _⟩ => ⟨S64x56x4096, .f32⟩
  | .hbm, ⟨59, _⟩ => ⟨S_, .f32⟩
  | .hbm, ⟨60, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_cst_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_cst : Ref sig .tc := ⟨.hbm, 46, rfl⟩
abbrev main_call0_c : Ref sig .tc := ⟨.hbm, 47, rfl⟩
abbrev main_call0_v1_0 : Ref sig .tc := ⟨.hbm, 48, rfl⟩
abbrev main_v34 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Proof.KernelRun.lean ====
/- What the kernel leaves in its result array, as one function of the three arguments: the block of the single grid
   point is the whole array, the columns from 128 on are stored by one piece, the first 128 by another. -/
module

public import proofs.«01_k».proof.Defs
public import proofs.«01_k».proof.Proof.Gen.KernelIdeal.Value
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Sampler

open Idealize.ShloMosaic Idealize.SL.Sem Cert.KernelIdeal Cert.KernelIdeal.Gen

/-- The kernel's packed table of constants, read as extended reals. -/
def packed : Vec Ideal S256x128 .f32 := fun i => (FloatOps.ofBits .f32 (lit0 (S256x128.rowMajor i)) : Ideal .f32)

/-- Rows 0 to 63 of the table: the columns each candidate flips. -/
def tabSel : Vec Ideal S64x128 .f32 := View.ld (Val := Elt Ideal) (S := S256x128) (e' := .f32) packed (Rect.unit (s := S256x128) ![0, 0] ![64, 128] inb_S256x128_S64x128_0_0)

/-- Rows 64 to 127: the same, with column 127 all ones. -/
def tabExt : Vec Ideal S64x128 .f32 := View.ld (Val := Elt Ideal) (S := S256x128) (e' := .f32) packed (Rect.unit (s := S256x128) ![64, 0] ![64, 128] inb_S256x128_S64x128_64_0)

/-- Rows 128 to 191: the flips drawn for each row of the batch before any candidate is formed. -/
def tabChanges : Vec Ideal S64x128 .f32 := View.ld (Val := Elt Ideal) (S := S256x128) (e' := .f32) packed (Rect.unit (s := S256x128) ![128, 0] ![64, 128] inb_S256x128_S64x128_128_0)

/-- Rows 192 to 255, first 64 columns: the noise added to each candidate's score. -/
def tabNoise : Vec Ideal S64x64 .f32 := View.ld (Val := Elt Ideal) (S := S256x128) (e' := .f32) packed (Rect.unit (s := S256x128) ![192, 0] ![64, 64] inb_S256x128_S64x64_192_0)

/-- The weights transposed, as the kernel receives them. -/
def weightsT (w : FVec Ideal S4096x64 .f32) : FVec Ideal S64x4096 .f32 :=
  transpose S64x4096 [1, 0] w transposes_S4096x64_S64x4096_1_0

/-- The output weights repeated once per row of the batch, as the kernel receives them. -/
def tiled (w2 : FVec Ideal S64 .f32) : FVec Ideal S1x4096 .f32 :=
  shapeCast S1x4096 (shapeCast S4096 (broadcastInDim S64x64 ![0, 1] bcast_S1x64_S64x64_0_1
    (shapeCast S1x64 w2 shapeCasts_S64_S1x64)) shapeCasts_S64x64_S4096) shapeCasts_S4096_S1x4096

/-- The candidate the kernel picks for each row of the batch. -/
def kernelPick (x : FVec Ideal S64x4096 .f32) (w : FVec Ideal S4096x64 .f32) (w2 : FVec Ideal S64 .f32) : IVec S64x1 32 :=
  k0_pay8 (F := Ideal) (k0_pay3 (tiled w2)) tabExt tabNoise (k0_pay7 (F := Ideal) x (weightsT w) tabChanges)

/-- The first 128 columns of the kernel's result. -/
def kernelHead (x : FVec Ideal S64x4096 .f32) (w : FVec Ideal S4096x64 .f32) (w2 : FVec Ideal S64 .f32) : FVec Ideal S64x128 .f32 :=
  k0_pay1 tabSel (k0_pay5 x tabChanges) (k0_pay6 x tabChanges) (iota .tc S64x64 32 [1] iota_S64x64_d1_w32) (kernelPick x w w2)

/-- The kernel's result array: the first 128 columns computed, the others copied from `x`. -/
def kernelOut (x : FVec Ideal S64x4096 .f32) (w : FVec Ideal S4096x64 .f32) (w2 : FVec Ideal S64 .f32) : FVec Ideal S64x4096 .f32 :=
  fun j => if h : (j 1 : ℕ) < 128 then kernelHead x w w2 (ix2 (j 0) ⟨(j 1 : ℕ), h⟩) else x j

variable (m : (ℓ : Loc nD τ sig) → Buf (Elt Ideal) ℓ)

/-- The block of `x` the body reads is `x`. -/
theorem block0 (c : Dev nD) : iblk m c 0 t0_0 = m ((c.tc : Thread nD τ).loc main_arg0) := by
  funext y
  blk_simp [iblk]
  rw [V_main_arg0]
  congr 1
  funext a
  apply Fin.ext
  blk_simp
  rw [(by decide +kernel : ∀ a, win0_0.index t0_0 a = 0) a]; simp

/-- The block of weights the body reads is the transposed weights. -/
theorem block1 (c : Dev nD) : iblk m c 1 t0_0 = weightsT (m ((c.tc : Thread nD τ).loc main_arg1)) := by
  have e : V m c main_v0 = weightsT (m ((c.tc : Thread nD τ).loc main_arg1)) := by entry_read; rfl
  funext y
  blk_simp [iblk]
  rw [e]
  congr 1
  funext a
  apply Fin.ext
  blk_simp
  rw [(by decide +kernel : ∀ a, win0_1.index t0_0 a = 0) a]; simp

/-- The block of output weights the body reads is the tiled output weights. -/
theorem block2 (c : Dev nD) : iblk m c 2 t0_0 = tiled (m ((c.tc : Thread nD τ).loc main_arg2)) := by
  have e : V m c main_v4 = tiled (m ((c.tc : Thread nD τ).loc main_arg2)) := by entry_read; rfl
  funext y
  blk_simp [iblk]
  rw [e]
  congr 1
  funext a
  apply Fin.ext
  blk_simp
  rw [(by decide +kernel : ∀ a, win0_2.index t0_0 a = 0) a]; simp

/-- The block of constants the body reads is the packed table. -/
theorem block3 (c : Dev nD) : iblk m c 3 t0_0 = packed := by
  have e : V m c main_cst = packed := by entry_read; rfl
  funext y
  blk_simp [iblk]
  rw [e]
  congr 1
  funext a
  apply Fin.ext
  blk_simp
  rw [(by decide +kernel : ∀ a, win0_3.index t0_0 a = 0) a]; simp

/-- Two stored pieces, one over the first 128 columns and one over the rest, cover the array: each index reads its piece. -/
theorem two_pieces (p : FVec Ideal S64x3968 .f32) (q : FVec Ideal S64x128 .f32) (j : S64x4096.Idx) :
    View.canon (Val := Elt Ideal) (s := S64x4096) (e := .f32) [⟨Rect.unit ![0, 128] ![64, 3968] inb_S64x4096_S64x3968_0_128, p⟩,
        ⟨Rect.unit ![0, 0] ![64, 128] inb_S64x4096_S64x128_0_0, q⟩] j
      = if h : (j 1 : ℕ) < 128 then q (ix2 (j 0) ⟨(j 1 : ℕ), h⟩) else p (ix2 (j 0) ⟨(j 1 : ℕ) - 128, by have : (j 1 : ℕ) < 4096 := (j 1).isLt; omega⟩) := by
  by_cases h : (j 1 : ℕ) < 128
  · rw [dif_pos h, View.canon_cons_of_not_mem]
    · have hj : j = (Rect.unit (s := S64x4096) ![0, 0] ![64, 128] inb_S64x4096_S64x128_0_0).emb (ix2 (n0 := 64) (n1 := 128) (j 0) ⟨(j 1 : ℕ), h⟩) := by
        funext a; apply Fin.ext; fin_cases a <;> simp [Rect.emb, Rect.unit]
      conv_lhs => rw [hj]
      exact View.canon_cons_emb _ _ _ _
    · rw [Rect.mem_set_unit]
      intro hh
      have := (hh 1).1
      simp at this
      omega
  · rw [dif_neg h]
    have hj : j = (Rect.unit (s := S64x4096) ![0, 128] ![64, 3968] inb_S64x4096_S64x3968_0_128).emb (ix2 (n0 := 64) (n1 := 3968) (j 0) ⟨(j 1 : ℕ) - 128, by have : (j 1 : ℕ) < 4096 := (j 1).isLt; omega⟩) := by
      funext a; apply Fin.ext; fin_cases a <;> simp [Rect.emb, Rect.unit]
      omega
    conv_lhs => rw [hj]
    exact View.canon_cons_emb _ _ _ _

/-- After the run the kernel's result array is `kernelOut` of its arguments. -/
theorem kernel_final (c : Dev nD) : (dats m 0 c).arrAt 4 cfg0.N
    = kernelOut (m ((c.tc : Thread nD τ).loc main_arg0)) (m ((c.tc : Thread nD τ).loc main_arg1)) (m ((c.tc : Thread nD τ).loc main_arg2)) := by
  refine (dats m 0 c).arrAt_eq_of_after_last 4 t0_0 (by decide +kernel) _ fun j => ?_
  blk_simp
  rw [after0_4]
  unfold outsAt0
  frame_out
  simp only [read_unread_whole]
  rw [block0, block1, block2, block3]
  refine (two_pieces _ _ j).trans ?_
  unfold kernelOut
  split
  · rfl
  · unfold k0_pay2
    pointwise
    refine congrArg (m ((c.tc : Thread nD τ).loc main_arg0)) (?_ : _ = (j : S64x4096.Idx))
    have hj : ¬ ((j : S64x4096.Idx) 1 : ℕ) < 128 := by assumption
    funext a; apply Fin.ext; fin_cases a
    · rfl
    · show 128 + (((j : S64x4096.Idx) 1 : ℕ) - 128) = ((j : S64x4096.Idx) 1 : ℕ)
      omega

end Cert.Sampler

end
-- ==== Proof.RefRun.lean ====
/- The reference's result, in stages named after its own text: the batch with the drawn flips, every candidate, the
   scores, the choice, and the chosen candidate. -/
module

public import proofs.«01_k».proof.Defs
public import proofs.«01_k».proof.Proof.Gen.ReferenceIdeal
public import Idealize.ShloMosaic.Lib.Claim
public import Idealize.ShloMosaic.Lib.StableHlo.RunHlo
public import Idealize.ShloMosaic.Lib.Pointwise

@[expose] public section

set_option maxRecDepth 16384

noncomputable section

namespace Cert.Sampler

open Idealize.ShloMosaic Idealize.SL.Sem Cert.ReferenceIdeal Cert.ReferenceIdeal.Gen Cert.ReferenceIdeal.Facts

/-- The Hamming ball: row `n` has a one in each column that candidate `n` flips. -/
def ball : FVec Ideal S56x10 .f32 := fun i => FloatOps.ofBits .f32 (lit0 (S56x10.rowMajor i))

/-- The flips drawn for each row of the batch before any candidate is formed. -/
def drawn : FVec Ideal S64x10 .f32 := fun i => FloatOps.ofBits .f32 (lit1 (S64x10.rowMajor i))

/-- The noise added to each candidate's score. -/
def noise : FVec Ideal S64x56 .f32 := fun i => FloatOps.ofBits .f32 (lit2 (S64x56.rowMajor i))

/-- The first ten columns of the batch, with the drawn flips made. -/
def flipped (x : FVec Ideal S64x4096 .f32) : FVec Ideal S64x10 .f32 :=
  addf (mulf drawn (subf (broadcastInDim S64x10 ![] bcast_S_S64x10 (constant S_ .f32 0x3F800000#32))
      (extractStridedSlice S64x10 ![0, 0] x slices_S64x4096_S64x10_0_0)))
    (mulf (subf (broadcastInDim S64x10 ![] bcast_S_S64x10 (constant S_ .f32 0x3F800000#32)) drawn)
      (extractStridedSlice S64x10 ![0, 0] x slices_S64x4096_S64x10_0_0))

/-- The first ten columns of every candidate. -/
def heads (x : FVec Ideal S64x4096 .f32) : FVec Ideal S64x56x10 .f32 :=
  addf (mulf (broadcastInDim S64x56x10 ![0, 1, 2] bcast_S1x56x10_S64x56x10_0_1_2 (broadcastInDim S1x56x10 ![1, 2] bcast_S56x10_S1x56x10_1_2 ball))
      (broadcastInDim S64x56x10 ![0, 1, 2] bcast_S64x1x10_S64x56x10_0_1_2
        (subf (broadcastInDim S64x1x10 ![] bcast_S_S64x1x10 (constant S_ .f32 0x3F800000#32))
          (broadcastInDim S64x1x10 ![0, 2] bcast_S64x10_S64x1x10_0_2 (flipped x)))))
    (mulf (broadcastInDim S64x56x10 ![0, 1, 2] bcast_S1x56x10_S64x56x10_0_1_2
        (subf (broadcastInDim S1x56x10 ![] bcast_S_S1x56x10 (constant S_ .f32 0x3F800000#32))
          (broadcastInDim S1x56x10 ![1, 2] bcast_S56x10_S1x56x10_1_2 ball)))
      (broadcastInDim S64x56x10 ![0, 1, 2] bcast_S64x1x10_S64x56x10_0_1_2
        (broadcastInDim S64x1x10 ![0, 2] bcast_S64x10_S64x1x10_0_2 (flipped x))))

/-- Every candidate: its first ten columns, then the batch's other columns. -/
def candidates (x : FVec Ideal S64x4096 .f32) : FVec Ideal S64x56x4096 .f32 :=
  concatenate S64x56x4096 2 [⟨S64x56x10, heads x⟩, ⟨S64x56x4086, broadcastInDim S64x56x4086 ![0, 1, 2] bcast_S64x1x4086_S64x56x4086_0_1_2
    (broadcastInDim S64x1x4086 ![0, 2] bcast_S64x4086_S64x1x4086_0_2 (extractStridedSlice S64x4086 ![0, 10] x slices_S64x4096_S64x4086_0_10))⟩]
    concatenates_S64x56x10_S64x56x4086_S64x56x4096_d2

/-- The network's score of every candidate. -/
def scores (x : FVec Ideal S64x4096 .f32) (w : FVec Ideal S4096x64 .f32) (w2 : FVec Ideal S64 .f32) : FVec Ideal S64x56 .f32 :=
  shapeCast S64x56 (Host.dotGeneral dot_S3584x64_S64_S3584_1_0_0_n_n_n none
    (maximumf (Host.dotGeneral dot_S3584x4096_S4096x64_S3584x64_1_0_0_1_n_n none
        (shapeCast S3584x4096 (candidates x) shapeCasts_S64x56x4096_S3584x4096) w)
      (broadcastInDim S3584x64 ![] bcast_S_S3584x64 (constant S_ .f32 0x00000000#32))) w2) shapeCasts_S3584_S64x56

/-- The candidate chosen for each row of the batch. -/
def choice (x : FVec Ideal S64x4096 .f32) (w : FVec Ideal S4096x64 .f32) (w2 : FVec Ideal S64 .f32) : IVec S64 32 :=
  fun j => (Host.argReduce reducer_argmax_f32_i32 (addf (scores x w w2) noise) (iotaInDim S64x56 32 1)
    (constant S_ .f32 0xFF800000#32) (constantI S_ 32 0#32) reducesTo_S64x56_S64_d1 h_S_ j).2

/-- The choice as a one-hot row. -/
def oneHot (k : IVec S64 32) : FVec Ideal S64x56 .f32 :=
  uitofp .f32 (cmpi .eq (broadcastInDim S64x56 ![0, 1] bcast_S64x1_S64x56_0_1 (broadcastInDim S64x1 ![0] bcast_S64_S64x1_0 k))
    (broadcastInDim S64x56 ![0, 1] bcast_S1x56_S64x56_0_1 (iotaInDim S1x56 32 1)))

/-- The reference's result: the chosen candidate of each row. -/
def refOut (x : FVec Ideal S64x4096 .f32) (w : FVec Ideal S4096x64 .f32) (w2 : FVec Ideal S64 .f32) : FVec Ideal S64x4096 .f32 :=
  Host.reduceAdd (mulf (candidates x) (broadcastInDim S64x56x4096 ![0, 1, 2] bcast_S64x56x1_S64x56x4096_0_1_2
      (broadcastInDim S64x56x1 ![0, 1] bcast_S64x56_S64x56x1_0_1 (oneHot (choice x w w2)))))
    (constant S_ .f32 0x00000000#32) reducesTo_S64x56x4096_S64x4096_d1 h_S_

variable (m : (ℓ : Loc nD τ sig) → Buf (Elt Ideal) ℓ)

/-- After the run the reference's result array is `refOut` of its arguments, which are unchanged. -/
theorem ref_run (g : Dev nD → PrngReg) : θ_run (defs (F := Ideal)) (onTc (τ := τ) (main (F := Ideal))) ⟨m, fun _ => 0, g⟩ (fun r => ∀ c : Dev nD,
    r.2.mem ((c.tc : Thread nD τ).loc main_v39) = refOut (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  hlo_run
  rfl

end Cert.Sampler

end
-- ==== Proof.Flips.lean ====
/- The arithmetic of a candidate over the extended reals: a flip written with `h` and `1 - h` against the same flip written
   as a signed step, and a candidate's weighted sum against the sum of its batch row corrected by the steps. -/
module

public import Idealize.ShloMosaic.Lib.Pointwise

@[expose] public section

noncomputable section

namespace Cert.Sampler

open Idealize.ShloMosaic

/-- An extended real that is neither infinity. -/
def Real' (a : EReal) : Prop := ∃ r : ℝ, a = (r : EReal)

/-- A zero or a one. -/
def Bit (a : EReal) : Prop := a = 0 ∨ a = 1

/-- What flipping `u` where `h` is one comes to. -/
def flip (h u : EReal) : EReal := h * (1 - u) + (1 - h) * u

/-- Where `h` is zero nothing is flipped, whatever `u` is. -/
theorem flip_zero (u : EReal) : flip 0 u = u := by
  unfold flip; simp

/-- A real number less itself is zero. -/
theorem sub_self' {x : EReal} (hx : Real' x) : x - x = 0 := by
  obtain ⟨x, rfl⟩ := hx
  rw [← EReal.coe_sub, sub_self, EReal.coe_zero]

/-- Where `h` is one the flip is `1 - u`. -/
theorem flip_one (u : EReal) : flip 1 u = 1 - u := by
  unfold flip
  have e : (1 : EReal) - 1 = 0 := sub_self' ⟨1, rfl⟩
  rw [e, one_mul, zero_mul, add_zero]

/-- Flipping a real number gives a real number. -/
theorem flip_real {h u : EReal} (hh : Bit h) (hu : Real' u) : Real' (flip h u) := by
  obtain ⟨r, rfl⟩ := hu
  rcases hh with rfl | rfl
  · exact ⟨r, flip_zero _⟩
  · exact ⟨1 - r, by rw [flip_one, EReal.coe_sub, EReal.coe_one]⟩

/-- The flip as a signed step: `u + h * (1 - 2 * u)`. -/
theorem flip_eq_step {h u : EReal} (hh : Bit h) (hu : Real' u) : u + h * (1 - 2 * u) = flip h u := by
  obtain ⟨r, rfl⟩ := hu
  have e : (1 : EReal) = ((1 : ℝ) : EReal) := rfl
  have e2 : (2 : EReal) = ((2 : ℝ) : EReal) := rfl
  rcases hh with rfl | rfl
  · rw [flip_zero, zero_mul, add_zero]
  · rw [flip_one, one_mul, e, e2]
    simp only [← EReal.coe_mul, ← EReal.coe_sub, ← EReal.coe_add]
    congr 1; ring

/-- One column's share of the kernel's sum is that column's share of the candidate's. -/
theorem share {x u w h : EReal} (hx : Real' x) (hu : Real' u) (hw : Real' w) (hh : Bit h) :
    (x * w + (u - x) * w) + (1 - 2 * u) * w * h = flip h u * w := by
  obtain ⟨x, rfl⟩ := hx
  obtain ⟨u, rfl⟩ := hu
  obtain ⟨w, rfl⟩ := hw
  have e : (1 : EReal) = ((1 : ℝ) : EReal) := rfl
  have e2 : (2 : EReal) = ((2 : ℝ) : EReal) := rfl
  rcases hh with rfl | rfl
  · rw [flip_zero, mul_zero, add_zero]
    simp only [← EReal.coe_mul, ← EReal.coe_sub, ← EReal.coe_add]
    congr 1; ring
  · rw [flip_one, mul_one, e, e2]
    simp only [← EReal.coe_mul, ← EReal.coe_sub, ← EReal.coe_add]
    congr 1; ring

/-- A sum over 4096 columns as its first ten and the rest. -/
theorem sum_head_tail (f : Fin 4096 → EReal) :
    ∑ k, f k = (∑ k : Fin 10, f ⟨k, by omega⟩) + ∑ k : Fin 4086, f ⟨10 + k, by omega⟩ :=
  Fin.sum_univ_two_halves 10 4086 rfl f

/-- A sum over 128 columns as its first ten, the next 117 and the last one. -/
theorem sum_lane (f : Fin 128 → EReal) :
    ∑ k, f k = (∑ k : Fin 10, f ⟨k, by omega⟩) + ((∑ k : Fin 117, f ⟨10 + k, by omega⟩) + f ⟨127, by omega⟩) := by
  rw [Fin.sum_univ_two_halves 10 118 rfl f, Fin.sum_univ_two_halves 117 1 rfl]
  simp

/-- The kernel's sum over its 128 lanes, lane 127 holding the corrected sum of the whole row, is the candidate's weighted
    sum: `u` holds the row with the drawn flips, `h` the candidate's flips with a one in lane 127. -/
theorem candidate_sum (x w : Fin 4096 → EReal) (u h : Fin 128 → EReal)
    (hx : ∀ k : Fin 4096, (k : ℕ) < 128 → Real' (x k)) (hw : ∀ k : Fin 4096, (k : ℕ) < 10 → Real' (w k))
    (hu : ∀ k : Fin 128, (k : ℕ) < 10 → Real' (u k)) (hu' : ∀ k : Fin 128, 10 ≤ (k : ℕ) → u k = x ⟨k, by omega⟩)
    (hh : ∀ k : Fin 128, (k : ℕ) < 10 → Bit (h k)) (hh' : ∀ k : Fin 128, 10 ≤ (k : ℕ) → (k : ℕ) < 127 → h k = 0)
    (hh1 : h ⟨127, by omega⟩ = 1) :
    ∑ k : Fin 128, (if (k : ℕ) = 127 then
          (∑ i, x i * w i) + ∑ i : Fin 128, (u i - x ⟨i, by omega⟩) * w ⟨i, by omega⟩
        else (1 - 2 * u k) * w ⟨k, by omega⟩) * h k
      = ∑ k : Fin 4096, (if hk : (k : ℕ) < 10 then flip (h ⟨k, by omega⟩) (u ⟨k, by omega⟩) else x k) * w k := by
  have hlane : ∑ i : Fin 128, (u i - x ⟨i, by omega⟩) * w ⟨i, by omega⟩
      = ∑ k : Fin 10, (u ⟨k, by omega⟩ - x ⟨k, by omega⟩) * w ⟨k, by omega⟩ := by
    rw [Fin.sum_univ_two_halves 10 118 rfl]
    rw [Finset.sum_eq_zero (s := (Finset.univ : Finset (Fin 118))), add_zero]
    intro k _
    rw [hu' _ (by simp), sub_self' (hx _ (by show 10 + (k : ℕ) < 128; omega)), zero_mul]
  rw [sum_lane, Finset.sum_eq_zero (s := (Finset.univ : Finset (Fin 117))), zero_add, hh1, mul_one, if_pos rfl, hlane,
    sum_head_tail (fun k => (if hk : (k : ℕ) < 10 then flip (h ⟨k, by omega⟩) (u ⟨k, by omega⟩) else x k) * w k),
    sum_head_tail (fun i => x i * w i)]
  · have e1 : ∑ k : Fin 4086, (if hk : (10 + (k : ℕ)) < 10 then flip (h ⟨10 + k, by omega⟩) (u ⟨10 + k, by omega⟩) else x ⟨10 + k, by omega⟩)
          * w ⟨10 + k, by omega⟩ = ∑ k : Fin 4086, x ⟨10 + k, by omega⟩ * w ⟨10 + k, by omega⟩ :=
      Finset.sum_congr rfl fun k _ => by rw [dif_neg (by omega)]
    have e2 : ∑ k : Fin 10, (if hk : (k : ℕ) < 10 then flip (h ⟨k, by omega⟩) (u ⟨k, by omega⟩) else x ⟨k, by omega⟩) * w ⟨k, by omega⟩
        = ∑ k : Fin 10, (x ⟨k, by omega⟩ * w ⟨k, by omega⟩ + (u ⟨k, by omega⟩ - x ⟨k, by omega⟩) * w ⟨k, by omega⟩)
          + ∑ k : Fin 10, (1 - 2 * u ⟨k, by omega⟩) * w ⟨k, by omega⟩ * h ⟨k, by omega⟩ := by
      rw [← Finset.sum_add_distrib]
      refine Finset.sum_congr rfl fun k _ => ?_
      rw [dif_pos k.isLt]
      exact (share (hx _ (by show (k : ℕ) < 128; omega)) (hu _ k.isLt) (hw _ k.isLt) (hh _ k.isLt)).symm
    have e3 : ∑ k : Fin 10, (if (k : ℕ) = 127 then
          ((∑ k : Fin 10, x ⟨k, by omega⟩ * w ⟨k, by omega⟩) + ∑ k : Fin 4086, x ⟨10 + k, by omega⟩ * w ⟨10 + k, by omega⟩)
            + ∑ k : Fin 10, (u ⟨k, by omega⟩ - x ⟨k, by omega⟩) * w ⟨k, by omega⟩
        else (1 - 2 * u ⟨k, by omega⟩) * w ⟨k, by omega⟩) * h ⟨k, by omega⟩
        = ∑ k : Fin 10, (1 - 2 * u ⟨k, by omega⟩) * w ⟨k, by omega⟩ * h ⟨k, by omega⟩ :=
      Finset.sum_congr rfl fun k _ => by rw [if_neg (by omega)]
    rw [e1, e2]
    refine (congrArg (· + _) e3).trans ?_
    rw [Finset.sum_add_distrib]
    ac_rfl
  · intro k _
    rw [hh' _ (by simp) (by show 10 + (k : ℕ) < 127; omega), mul_zero]

end Cert.Sampler

end
-- ==== Proof.Finite.lean ====
/- What the precondition says, entry by entry: the first 128 columns of the batch and the first ten rows of the weights are
   real numbers. -/
module

public import proofs.«01_k».proof.Defs
public import proofs.«01_k».proof.Proof.Gen.Pre_flippable
public import proofs.«01_k».proof.Proof.Flips
public import Idealize.ShloMosaic.Lib.Claim
public import Idealize.ShloMosaic.Lib.Pointwise
public import Idealize.ShloMosaic.Lib.ReduceAll
public import Idealize.ShloMosaic.Lib.IdealHost

@[expose] public section

set_option maxRecDepth 16384

noncomputable section

namespace Cert.Sampler

open Idealize.ShloMosaic Cert.Pre_flippable Cert.Pre_flippable.Facts

/-- The f32 pattern of infinity is the greatest extended real. -/
theorem top_bits : Ideal.ofBits .f32 0x7F800000#32 = (⊤ : EReal) := by
  simp [Ideal.ofBits, Ideal.ieee]

/-- An entry whose absolute value compares below infinity is a real number. -/
theorem real_of_abs {a : EReal} (h : Ideal.cmp .olt (max a (-a)) (⊤ : EReal) = 1#1) : Real' a := by
  have h' : max a (-a) < ⊤ := by
    by_contra hc
    simp [Ideal.cmp, hc] at h
  induction a with
  | bot => simp at h'
  | top => simp at h'
  | coe r => exact ⟨r, rfl⟩

/-- The precondition's first half, an entry at a time. -/
theorem real_x (x : FVec Ideal S64x4096 .f32) (w : FVec Ideal S4096x64 .f32) (w2 : FVec Ideal S64 .f32)
    (h : Cert.Pre_flippable.fn (F := Ideal) x w w2 = fun _ => 1#1) (b : Fin 64) (k : Fin 4096) (hk : (k : ℕ) < 128) :
    Real' (x (ix2 b k)) := by
  have h0 := congrFun h (Shape.Idx.first h_S_)
  unfold Cert.Pre_flippable.fn at h0
  have h1 := (IntOp.andi_eq_one.1 h0).1
  have h2 := Host.reduce_andi_all _ _ _ _ _ h1 (ix2 b ⟨k, hk⟩)
  pointwise at h2
  exact real_of_abs (top_bits ▸ h2)

/-- The precondition's second half, an entry at a time. -/
theorem real_w (x : FVec Ideal S64x4096 .f32) (w : FVec Ideal S4096x64 .f32) (w2 : FVec Ideal S64 .f32)
    (h : Cert.Pre_flippable.fn (F := Ideal) x w w2 = fun _ => 1#1) (k : Fin 4096) (j : Fin 64) (hk : (k : ℕ) < 10) :
    Real' (w (ix2 k j)) := by
  have h0 := congrFun h (Shape.Idx.first h_S_)
  unfold Cert.Pre_flippable.fn at h0
  have h1 := (IntOp.andi_eq_one.1 h0).2
  have h2 := Host.reduce_andi_all _ _ _ _ _ h1 (ix2 ⟨k, hk⟩ j)
  pointwise at h2
  exact real_of_abs (top_bits ▸ h2)

end Cert.Sampler

end
-- ==== Proof.TablesSel.lean ====
/- Rows 0 to 127 of the packed table as bit patterns: the rows that select a candidate and the rows that score it. -/
module

public import proofs.«01_k».proof.KernelIdeal
public import proofs.«01_k».proof.ReferenceIdeal

@[expose] public section

namespace Cert.Sampler

open Cert

/-- Rows 0 to 55: the reference's ball in the first ten columns. -/
theorem sel_bits : ∀ n < 56, ∀ k < 10, KernelIdeal.lit0t (128 * n + k) = ReferenceIdeal.lit0t (10 * n + k) := by
  decide +kernel

/-- Rows 0 to 55: zeros in the other columns. -/
theorem sel_bits_zero : ∀ n < 56, ∀ k < 118, KernelIdeal.lit0t (128 * n + (10 + k)) = 0x00000000#32 := by
  decide +kernel

/-- Rows 64 to 119: the reference's ball in the first ten columns. -/
theorem ext_bits : ∀ n < 56, ∀ k < 10, KernelIdeal.lit0t (128 * (64 + n) + k) = ReferenceIdeal.lit0t (10 * n + k) := by
  decide +kernel

/-- Rows 120 to 127, padding: zeros in the first ten columns. -/
theorem ext_bits_pad : ∀ n < 8, ∀ k < 10, KernelIdeal.lit0t (128 * (120 + n) + k) = 0x00000000#32 := by
  decide +kernel

/-- Rows 64 to 127: zeros in columns 10 to 126. -/
theorem ext_bits_zero : ∀ n < 64, ∀ k < 117, KernelIdeal.lit0t (128 * (64 + n) + (10 + k)) = 0x00000000#32 := by
  decide +kernel

/-- Rows 64 to 127: ones in column 127. -/
theorem ext_bits_one : ∀ n < 64, KernelIdeal.lit0t (128 * (64 + n) + 127) = 0x3F800000#32 := by
  decide +kernel

end Cert.Sampler
-- ==== Proof.TablesDraw.lean ====
/- Rows 128 to 255 of the packed table as bit patterns: the drawn flips and the noise. -/
module

public import proofs.«01_k».proof.KernelIdeal
public import proofs.«01_k».proof.ReferenceIdeal

@[expose] public section

namespace Cert.Sampler

open Cert

/-- Rows 128 to 191: the reference's drawn flips in the first ten columns. -/
theorem changes_bits : ∀ b < 64, ∀ k < 10, KernelIdeal.lit0t (128 * (128 + b) + k) = ReferenceIdeal.lit1t (10 * b + k) := by
  decide +kernel

/-- Rows 128 to 191: zeros in the other columns. -/
theorem changes_bits_zero : ∀ b < 64, ∀ k < 118, KernelIdeal.lit0t (128 * (128 + b) + (10 + k)) = 0x00000000#32 := by
  decide +kernel

/-- Rows 192 to 255: the reference's noise in the first 56 columns. -/
theorem noise_bits : ∀ b < 64, ∀ n < 56, KernelIdeal.lit0t (128 * (192 + b) + n) = ReferenceIdeal.lit2t (56 * b + n) := by
  decide +kernel

/-- Rows 192 to 255: one large negative number in columns 56 to 63, the padding's. -/
theorem noise_bits_pad : ∀ b < 64, ∀ n < 8, KernelIdeal.lit0t (128 * (192 + b) + (56 + n)) = 0xF149F2CA#32 := by
  decide +kernel

end Cert.Sampler
-- ==== Proof.TablesRef.lean ====
/- What the entries of the reference's tables are, as bit patterns. -/
module

public import proofs.«01_k».proof.ReferenceIdeal

@[expose] public section

namespace Cert.Sampler

open Cert

/-- Every entry of the ball is a zero or a one. -/
theorem ball_bits : ∀ i < 560, ReferenceIdeal.lit0t i = 0x00000000#32 ∨ ReferenceIdeal.lit0t i = 0x3F800000#32 := by
  decide +kernel

/-- The ball's first row flips nothing. -/
theorem ball_bits_first : ∀ k < 10, ReferenceIdeal.lit0t k = 0x00000000#32 := by
  decide +kernel

/-- Every drawn flip is a zero or a one. -/
theorem drawn_bits : ∀ i < 640, ReferenceIdeal.lit1t i = 0x00000000#32 ∨ ReferenceIdeal.lit1t i = 0x3F800000#32 := by
  decide +kernel

/-- The noise of every row's first candidate is small: its exponent field is at most 130. -/
theorem noise_bits_first : ∀ b < 64, ((ReferenceIdeal.lit2t (56 * b)).extractLsb' 23 8).toNat ≤ 130 := by
  decide +kernel

end Cert.Sampler
-- ==== Proof.TableValues.lean ====
/- The kernel's packed table and the reference's three tables, compared as extended reals: the reads of the four parts of
   the packed table at an index, in terms of the reference's tables. -/
module

public import proofs.«01_k».proof.Proof.Flips
public import proofs.«01_k».proof.Proof.KernelRun
public import proofs.«01_k».proof.Proof.RefRun
public import proofs.«01_k».proof.Proof.TablesSel
public import proofs.«01_k».proof.Proof.TablesDraw
public import proofs.«01_k».proof.Proof.TablesRef
public import Idealize.ShloMosaic.Lib.IdealHost

@[expose] public section

set_option maxRecDepth 16384

noncomputable section

namespace Cert.Sampler

open Idealize.ShloMosaic

/-- The f32 pattern of two is two. -/
theorem two_bits : Ideal.ofBits .f32 0x40000000#32 = 2 := by
  rw [show (2 : EReal) = ((2 : ℝ) : EReal) by norm_cast]
  simp [Ideal.ofBits, Ideal.ieee, -EReal.coe_mul]; norm_num

/-- The f32 pattern of minus infinity is the least extended real. -/
theorem bot_bits : Ideal.ofBits .f32 4286578688#32 = (⊥ : EReal) := by
  simp [Ideal.ofBits, Ideal.ieee]

/-- The fill value of the padded noise columns is at most -16. -/
theorem fill_le : Ideal.ofBits .f32 0xF149F2CA#32 ≤ ((-16 : ℝ) : EReal) := by
  simp only [Ideal.ofBits, Ideal.ieee]
  rw [if_neg (by decide), if_neg (by decide), EReal.coe_le_coe_iff]
  rw [if_pos (by decide)]
  have h1 : ((BitVec.extractLsb' 23 8 0xF149F2CA#32).toNat : ℤ) - (2 ^ (8 - 1) - 1) - (23 : ℕ) = 76 := by decide
  have h2 : (2 ^ 23 + (BitVec.extractLsb' 0 23 0xF149F2CA#32).toNat) = 13234890 := by decide
  rw [h1, h2]
  norm_num

/-- An f32 pattern whose exponent field is at most 130 is at least -16. -/
theorem small_ge (b : BitVec 32) (h : (b.extractLsb' 23 8).toNat ≤ 130) : ((-16 : ℝ) : EReal) ≤ Ideal.ofBits .f32 b := by
  have hf : (b.extractLsb' 0 23).toNat < 2 ^ 23 := (b.extractLsb' 0 23).isLt
  simp only [Ideal.ofBits, Ideal.ieee]
  generalize (b.extractLsb' 0 23).toNat = fr at hf ⊢
  generalize (b.extractLsb' 23 8).toNat = ex at h ⊢
  have hs : ∀ s : ℝ, (s = if (b.extractLsb' (8 + 23) 1 == 1#1) = true then -1 else 1) → -1 ≤ s := by
    rintro s rfl; split_ifs <;> norm_num
  generalize hsd : (if (b.extractLsb' (8 + 23) 1 == 1#1) = true then (-1 : ℝ) else 1) = s
  have hs' := hs s hsd.symm
  have key : ∀ (a : ℝ) (e : ℤ), 0 ≤ a → a ≤ 2 ^ 24 → e ≤ -20 → -16 ≤ s * a * (2 : ℝ) ^ e := by
    intro a e ha ha' he
    have h1 : (2 : ℝ) ^ e ≤ 2 ^ (-20 : ℤ) := zpow_le_zpow_right₀ (by norm_num) he
    have h2 : (0 : ℝ) ≤ 2 ^ e := by positivity
    have h3 : a * (2 : ℝ) ^ e ≤ 16 := by
      calc a * (2 : ℝ) ^ e ≤ 2 ^ 24 * 2 ^ (-20 : ℤ) := mul_le_mul ha' h1 h2 (by norm_num)
        _ = 16 := by norm_num
    have h4 : 0 ≤ a * (2 : ℝ) ^ e := mul_nonneg ha h2
    rw [mul_assoc]
    nlinarith
  have hfr : (fr : ℝ) ≤ 2 ^ 23 := by exact_mod_cast hf.le
  rw [if_neg (by omega)]
  split_ifs with h0
  · rw [EReal.coe_le_coe_iff]
    exact key _ _ (by positivity) (hfr.trans (by norm_num)) (by norm_num)
  · rw [EReal.coe_le_coe_iff]
    refine key _ _ (by positivity) ?_ ?_
    · push_cast; linarith
    · have : (ex : ℤ) ≤ 130 := by exact_mod_cast h
      norm_num; omega

/-- The packed table at a row and a column. -/
theorem packed_at (r : Fin 256) (k : Fin 128) :
    packed (ix2 r k) = Ideal.ofBits .f32 (KernelIdeal.lit0t (128 * r + k)) := by
  have e : ∀ i : Fin 32768, KernelIdeal.lit0 i = KernelIdeal.lit0t i.val := fun ⟨_, _⟩ => rfl
  refine congrArg (Ideal.ofBits .f32) ((e _).trans (congrArg KernelIdeal.lit0t ?_))
  refine (rowMajor_val2 _ 128 rfl).trans ?_
  show (r : ℕ) * 128 + (k : ℕ) = _
  omega

/-- The Hamming ball at a row and a column. -/
theorem ball_at (n : Fin 56) (k : Fin 10) : ball (ix2 n k) = Ideal.ofBits .f32 (ReferenceIdeal.lit0t (10 * n + k)) := by
  have e : ∀ i : Fin 560, ReferenceIdeal.lit0 i = ReferenceIdeal.lit0t i.val := fun ⟨_, _⟩ => rfl
  refine congrArg (Ideal.ofBits .f32) ((e _).trans (congrArg ReferenceIdeal.lit0t ?_))
  refine (rowMajor_val2 _ 10 rfl).trans ?_
  show (n : ℕ) * 10 + (k : ℕ) = _
  omega

/-- The drawn flips at a row and a column. -/
theorem drawn_at (b : Fin 64) (k : Fin 10) : drawn (ix2 b k) = Ideal.ofBits .f32 (ReferenceIdeal.lit1t (10 * b + k)) := by
  have e : ∀ i : Fin 640, ReferenceIdeal.lit1 i = ReferenceIdeal.lit1t i.val := fun ⟨_, _⟩ => rfl
  refine congrArg (Ideal.ofBits .f32) ((e _).trans (congrArg ReferenceIdeal.lit1t ?_))
  refine (rowMajor_val2 _ 10 rfl).trans ?_
  show (b : ℕ) * 10 + (k : ℕ) = _
  omega

/-- The noise at a row and a candidate. -/
theorem noise_at (b : Fin 64) (n : Fin 56) : noise (ix2 b n) = Ideal.ofBits .f32 (ReferenceIdeal.lit2t (56 * b + n)) := by
  have e : ∀ i : Fin 3584, ReferenceIdeal.lit2 i = ReferenceIdeal.lit2t i.val := fun ⟨_, _⟩ => rfl
  refine congrArg (Ideal.ofBits .f32) ((e _).trans (congrArg ReferenceIdeal.lit2t ?_))
  refine (rowMajor_val2 _ 56 rfl).trans ?_
  show (b : ℕ) * 56 + (n : ℕ) = _
  omega

/-- The candidates' part of the packed table is its rows from 0. -/
theorem tabSel_at (n : Fin 64) (k : Fin 128) : tabSel (ix2 n k) = packed (ix2 ⟨n, by omega⟩ k) := by pointwise [tabSel]

/-- The extended candidates' part is its rows from 64. -/
theorem tabExt_at (n : Fin 64) (k : Fin 128) : tabExt (ix2 n k) = packed (ix2 ⟨64 + n, by omega⟩ k) := by pointwise [tabExt]

/-- The drawn flips' part is its rows from 128. -/
theorem tabChanges_at (n : Fin 64) (k : Fin 128) : tabChanges (ix2 n k) = packed (ix2 ⟨128 + n, by omega⟩ k) := by
  pointwise [tabChanges]

/-- The noise part is its rows from 192, first 64 columns. -/
theorem tabNoise_at (b n : Fin 64) : tabNoise (ix2 b n) = packed (ix2 ⟨192 + b, by omega⟩ ⟨n, by omega⟩) := by
  pointwise [tabNoise]

/-- A candidate's flips in the kernel's table are the reference's ball. -/
theorem tabSel_ball (n : Fin 56) (k : Fin 10) : tabSel (ix2 ⟨n, by omega⟩ ⟨k, by omega⟩) = ball (ix2 n k) := by
  rw [tabSel_at, packed_at, ball_at]
  exact congrArg _ (sel_bits n n.isLt k k.isLt)

/-- No candidate flips a column from 10 on. -/
theorem tabSel_rest (n : Fin 56) (k : Fin 128) (hk : 10 ≤ (k : ℕ)) : tabSel (ix2 ⟨n, by omega⟩ k) = 0 := by
  rw [tabSel_at, packed_at, ← Ideal.ofBits_zero_f32]
  have e := sel_bits_zero n n.isLt (k - 10) (by omega)
  rw [Nat.add_sub_cancel' hk] at e
  exact congrArg _ e

/-- The extended candidates' flips are the reference's ball too. -/
theorem tabExt_ball (n : Fin 56) (k : Fin 10) : tabExt (ix2 ⟨n, by omega⟩ ⟨k, by omega⟩) = ball (ix2 n k) := by
  rw [tabExt_at, packed_at, ball_at]
  exact congrArg _ (ext_bits n n.isLt k k.isLt)

/-- A padded candidate flips nothing. -/
theorem tabExt_pad (n : Fin 64) (hn : 56 ≤ (n : ℕ)) (k : Fin 10) : tabExt (ix2 n ⟨k, by omega⟩) = 0 := by
  rw [tabExt_at, packed_at, ← Ideal.ofBits_zero_f32]
  have e := ext_bits_pad (n - 56) (by omega) k k.isLt
  rw [show 120 + ((n : ℕ) - 56) = 64 + n by omega] at e
  exact congrArg _ e

/-- No extended candidate flips a column from 10 to 126. -/
theorem tabExt_rest (n : Fin 64) (k : Fin 128) (hk : 10 ≤ (k : ℕ)) (hk' : (k : ℕ) < 127) : tabExt (ix2 n k) = 0 := by
  rw [tabExt_at, packed_at, ← Ideal.ofBits_zero_f32]
  have e := ext_bits_zero n n.isLt (k - 10) (by omega)
  rw [Nat.add_sub_cancel' hk] at e
  exact congrArg _ e

/-- Column 127 of every extended candidate is one. -/
theorem tabExt_one (n : Fin 64) : tabExt (ix2 n ⟨127, by omega⟩) = 1 := by
  have e : 128 * ((⟨64 + (n : ℕ), by omega⟩ : Fin 256) : ℕ) + ((⟨127, by omega⟩ : Fin 128) : ℕ) = 128 * (64 + (n : ℕ)) + 127 := by
    simp only
  rw [tabExt_at, packed_at, e, ext_bits_one n n.isLt, Ideal.ofBits_one_f32]

/-- The drawn flips in the kernel's table are the reference's. -/
theorem tabChanges_drawn (b : Fin 64) (k : Fin 10) : tabChanges (ix2 b ⟨k, by omega⟩) = drawn (ix2 b k) := by
  rw [tabChanges_at, packed_at, drawn_at]
  exact congrArg _ (changes_bits b b.isLt k k.isLt)

/-- No flip is drawn for a column from 10 on. -/
theorem tabChanges_rest (b : Fin 64) (k : Fin 128) (hk : 10 ≤ (k : ℕ)) : tabChanges (ix2 b k) = 0 := by
  rw [tabChanges_at, packed_at, ← Ideal.ofBits_zero_f32]
  have e := changes_bits_zero b b.isLt (k - 10) (by omega)
  rw [Nat.add_sub_cancel' hk] at e
  exact congrArg _ e

/-- The noise in the kernel's table is the reference's. -/
theorem tabNoise_noise (b : Fin 64) (n : Fin 56) : tabNoise (ix2 b ⟨n, by omega⟩) = noise (ix2 b n) := by
  rw [tabNoise_at, packed_at, noise_at]
  exact congrArg _ (noise_bits b b.isLt n n.isLt)

/-- The noise of a padded candidate is at most the noise of candidate 0. -/
theorem tabNoise_pad (b n : Fin 64) (hn : 56 ≤ (n : ℕ)) : tabNoise (ix2 b n) ≤ noise (ix2 b 0) := by
  rw [tabNoise_at, packed_at, noise_at]
  have e := noise_bits_pad b b.isLt (n - 56) (by omega)
  rw [Nat.add_sub_cancel' hn] at e
  refine (congrArg (Ideal.ofBits .f32) e).le.trans (fill_le.trans (small_ge _ ?_))
  exact noise_bits_first b b.isLt

/-- The ball holds zeros and ones. -/
theorem ball_bit (n : Fin 56) (k : Fin 10) : Bit (ball (ix2 n k)) := by
  rw [ball_at]
  rcases ball_bits (10 * n + k) (by omega) with h | h
  · exact Or.inl ((congrArg _ h).trans Ideal.ofBits_zero_f32)
  · exact Or.inr ((congrArg _ h).trans Ideal.ofBits_one_f32)

/-- The drawn flips are zeros and ones. -/
theorem drawn_bit (b : Fin 64) (k : Fin 10) : Bit (drawn (ix2 b k)) := by
  rw [drawn_at]
  rcases drawn_bits (10 * b + k) (by omega) with h | h
  · exact Or.inl ((congrArg _ h).trans Ideal.ofBits_zero_f32)
  · exact Or.inr ((congrArg _ h).trans Ideal.ofBits_one_f32)

/-- Candidate 0 flips nothing. -/
theorem ball_first (k : Fin 10) : ball (ix2 0 k) = 0 := by
  rw [ball_at, ← Ideal.ofBits_zero_f32]
  have e := ball_bits_first k k.isLt
  exact congrArg _ ((congrArg ReferenceIdeal.lit0t (by simp)).trans e)

end Cert.Sampler

end
-- ==== Proof.KernelScores.lean ====
/- The kernel's stages read at an index: the batch with the drawn flips, the hidden sums held in 128 lanes, the score of
   each lane, and the choice made from the scores. -/
module

public import proofs.«01_k».proof.Proof.TableValues

@[expose] public section

set_option maxRecDepth 16384

noncomputable section

namespace Cert.Sampler

open Idealize.ShloMosaic
open Cert.KernelIdeal Cert.KernelIdeal.Gen

/-- The batch's first 128 columns with the drawn flips, as the kernel forms them. -/
theorem pay5_at (x : FVec Ideal S64x4096 .f32) (b : Fin 64) (k : Fin 128) :
    k0_pay5 x tabChanges (ix2 b k) = flip (tabChanges (ix2 b k)) (x (ix2 b ⟨k, by omega⟩)) := by
  pointwise [k0_pay5, k0_pay4, flip]

/-- The signed steps `1 - 2 * u`. -/
theorem pay6_at (x : FVec Ideal S64x4096 .f32) (b : Fin 64) (k : Fin 128) :
    k0_pay6 x tabChanges (ix2 b k) = 1 - 2 * k0_pay5 x tabChanges (ix2 b k) := by
  pointwise [k0_pay6]
  rw [two_bits]

/-- From column 10 on the drawn flips change nothing. -/
theorem pay5_rest (x : FVec Ideal S64x4096 .f32) (b : Fin 64) (k : Fin 128) (hk : 10 ≤ (k : ℕ)) :
    k0_pay5 x tabChanges (ix2 b k) = x (ix2 b ⟨k, by omega⟩) := by
  rw [pay5_at, tabChanges_rest b k hk, flip_zero]

/-- Equality of two small words, as a select. -/
theorem select_word {α : Type} (i j : ℕ) (hi : i < 2 ^ 32) (hj : j < 2 ^ 32) (p q : α) :
    Scalar.select (IntOp.cmpi .eq (BitVec.ofNat 32 i) (BitVec.ofNat 32 j)) p q = if i = j then p else q := by
  have e : (BitVec.ofNat 32 i = BitVec.ofNat 32 j) ↔ i = j := by
    constructor
    · intro h
      have := congrArg BitVec.toNat h
      rwa [BitVec.toNat_ofNat, BitVec.toNat_ofNat, Nat.mod_eq_of_lt hi, Nat.mod_eq_of_lt hj] at this
    · rintro rfl; rfl
  by_cases h : i = j
  · subst h; simp [Scalar.select, IntOp.cmpi]
  · have h' : (BitVec.ofNat 32 i == BitVec.ofNat 32 j) = false := by rw [beq_eq_false_iff_ne]; exact fun c => h (e.1 c)
    simp [Scalar.select, IntOp.cmpi, h, h']

/-- The weights as the kernel receives them, at an index. -/
theorem weightsT_at (w : FVec Ideal S4096x64 .f32) (h : Fin 64) (k : Fin 4096) : weightsT w (ix2 h k) = w (ix2 k h) := by
  pointwise [weightsT]

/-- The tiled output weights at an index. -/
theorem tiled_at (w2 : FVec Ideal S64 .f32) (r : Fin 4096) :
    k0_pay3 (tiled w2) (ix2 0 r) = w2 (ix1 ⟨(r : ℕ) % 64, Nat.mod_lt _ (by omega)⟩) := by
  pointwise [k0_pay3, tiled]

/-- The 128 lanes of a hidden unit: the signed steps times the weights, and in lane 127 the corrected sum of the row. -/
theorem pay7_at (x : FVec Ideal S64x4096 .f32) (w : FVec Ideal S4096x64 .f32) (b h : Fin 64) (k : Fin 128) :
    k0_pay7 (F := Ideal) x (weightsT w) tabChanges (ix3 b h k)
      = if (k : ℕ) = 127 then
          (∑ i, x (ix2 b i) * w (ix2 i h))
            + ∑ i : Fin 128, (k0_pay5 x tabChanges (ix2 b i) - x (ix2 b ⟨i, by omega⟩)) * w (ix2 ⟨i, by omega⟩ h)
        else (1 - 2 * k0_pay5 x tabChanges (ix2 b k)) * w (ix2 ⟨k, by omega⟩ h) := by
  pointwise [k0_pay7, k0_pay4]
  rw [show (127#32 : BitVec 32) = BitVec.ofNat 32 127 from rfl, select_word _ _ (by omega) (by omega), pay6_at]
  simp only [weightsT_at]

/-- The row of the batch a flattened position belongs to, as the kernel computes it in words. -/
theorem row_word (r : Fin 4096) :
    Scalar.select
      (IntOp.andi
        (IntOp.cmpi .ne
          (IntOp.subi (BitVec.setWidth 32 (IntOp.cmpi .sgt (BitVec.ofNat 32 (r : ℕ)) 0#32))
            (BitVec.setWidth 32 (IntOp.cmpi .slt (BitVec.ofNat 32 (r : ℕ)) 0#32)))
          (Scalar.subi (Scalar.extui (Scalar.cmpi .sgt 64#32 0#32)) (Scalar.extui (Scalar.cmpi .slt 64#32 0#32))))
        (IntOp.cmpi .ne (IntOp.remsi ArithUnit.vector (BitVec.ofNat 32 (r : ℕ)) 64#32) 0#32))
      (IntOp.subi (IntOp.divsi ArithUnit.vector (BitVec.ofNat 32 (r : ℕ)) 64#32) 1#32)
      (IntOp.divsi ArithUnit.vector (BitVec.ofNat 32 (r : ℕ)) 64#32) = BitVec.ofNat 32 ((r : ℕ) / 64) := by
  revert r
  decide +kernel

/-- A sum over flattened positions that keeps only row `b` is a sum over that row. -/
theorem sum_row (f : Fin 4096 → EReal) (b : Fin 64) :
    ∑ r : Fin 4096, (if (r : ℕ) / 64 = b then f r else 0) = ∑ h : Fin 64, f ⟨64 * b + h, by omega⟩ := by
  rw [← Finset.sum_filter]
  symm
  refine Finset.sum_bij (fun h _ => ⟨64 * b + h, by omega⟩) ?_ ?_ ?_ ?_
  · intro h _
    rw [Finset.mem_filter]
    exact ⟨Finset.mem_univ _, by show (64 * (b : ℕ) + h) / 64 = b; omega⟩
  · intro h _ h' _ e
    have : 64 * (b : ℕ) + h = 64 * b + h' := congrArg Fin.val e
    exact Fin.ext (by omega)
  · intro r hr
    have h := (Finset.mem_filter.1 hr).2
    refine ⟨⟨(r : ℕ) % 64, Nat.mod_lt _ (by omega)⟩, Finset.mem_univ _, Fin.ext ?_⟩
    show 64 * (b : ℕ) + (r : ℕ) % 64 = r
    omega
  · intro h _; rfl

/-- The score of a lane with its noise. -/
def laneScore (x : FVec Ideal S64x4096 .f32) (w : FVec Ideal S4096x64 .f32) (w2 : FVec Ideal S64 .f32) (b n : Fin 64) : EReal :=
  (∑ h : Fin 64, w2 (ix1 h) * max (∑ k, k0_pay7 (F := Ideal) x (weightsT w) tabChanges (ix3 b h k) * tabExt (ix2 n k)) 0)
    + tabNoise (ix2 b n)

/-- The kernel's choice: the least lane whose score is the largest. -/
theorem kernelPick_at (x : FVec Ideal S64x4096 .f32) (w : FVec Ideal S4096x64 .f32) (w2 : FVec Ideal S64 .f32) (b : Fin 64) :
    kernelPick x w w2 (ix2 b 0) = Finset.fold IntOp.minsi 2147483647#32
      (fun n : Fin 64 => if laneScore x w w2 b n = Finset.fold max (⊥ : EReal) (laneScore x w w2 b) Finset.univ
        then BitVec.ofNat 32 n else 64#32) Finset.univ := by
  have key : ∀ n : Fin 64,
      (∑ r : Fin 4096, (if (r : ℕ) / 64 = (b : ℕ) then
        k0_pay3 (tiled w2) (ix2 0 r) * max (∑ k, k0_pay7 (F := Ideal) x (weightsT w) tabChanges
          (ix3 ⟨(r : ℕ) / 64, by omega⟩ ⟨(r : ℕ) % 64, by omega⟩ k) * tabExt (ix2 n k)) 0 else 0)) + tabNoise (ix2 b n)
        = laneScore x w w2 b n := fun n => by
    unfold laneScore
    refine congrArg (· + tabNoise (ix2 b n)) ((sum_row _ b).trans (Finset.sum_congr rfl fun h _ => ?_))
    have e1 : (64 * (b : ℕ) + h) / 64 = b := by omega
    have e2 : (64 * (b : ℕ) + h) % 64 = h := by omega
    rw [tiled_at]
    simp only [e1, e2, Fin.eta]
  unfold kernelPick
  pointwise [k0_pay8]
  simp only [row_word]
  have sel : ∀ (r : Fin 4096) (p : EReal), Scalar.select (IntOp.cmpi .eq (BitVec.ofNat 32 ((r : ℕ) / 64)) (BitVec.ofNat 32 (b : ℕ))) p 0
      = if (r : ℕ) / 64 = (b : ℕ) then p else 0 := fun r p => select_word _ _ (by omega) (by omega) p 0
  simp only [sel, key, bot_bits]

/-- The kernel's hidden sum for lane `n`, as the weighted sum of the row with the drawn flips and the lane's flips made. -/
theorem hidden (x : FVec Ideal S64x4096 .f32) (w : FVec Ideal S4096x64 .f32)
    (hx : ∀ (b : Fin 64) (k : Fin 4096), (k : ℕ) < 128 → Real' (x (ix2 b k)))
    (hw : ∀ (k : Fin 4096) (h : Fin 64), (k : ℕ) < 10 → Real' (w (ix2 k h)))
    (b h n : Fin 64) (hn : ∀ k : Fin 128, (k : ℕ) < 10 → Bit (tabExt (ix2 n k))) :
    ∑ k, k0_pay7 (F := Ideal) x (weightsT w) tabChanges (ix3 b h k) * tabExt (ix2 n k)
      = ∑ k : Fin 4096, (if hk : (k : ℕ) < 10 then
            flip (tabExt (ix2 n ⟨k, by omega⟩)) (k0_pay5 x tabChanges (ix2 b ⟨k, by omega⟩))
          else x (ix2 b k)) * w (ix2 k h) := by
  have hu : ∀ k : Fin 128, (k : ℕ) < 10 → Real' (k0_pay5 x tabChanges (ix2 b k)) := fun k hk => by
    rw [pay5_at]
    refine flip_real ?_ (hx b _ k.isLt)
    have e := drawn_bit b ⟨k, hk⟩
    rwa [← tabChanges_drawn b ⟨k, hk⟩] at e
  have key := candidate_sum (fun k => x (ix2 b k)) (fun k => w (ix2 k h)) (fun k => k0_pay5 x tabChanges (ix2 b k))
    (fun k => tabExt (ix2 n k)) (fun k hk => hx b k hk) (fun k hk => hw k h hk) hu (fun k hk => pay5_rest x b k hk)
    hn (fun k hk hk' => tabExt_rest n k hk hk') (tabExt_one n)
  refine Eq.trans (Finset.sum_congr rfl fun k _ => ?_) key
  rw [pay7_at]

end Cert.Sampler

end
-- ==== Proof.Pick.lean ====
/- The first place where a row of extended reals is largest, read off two ways: as the least index of a maximal entry among
   64 lanes, and by walking a list of (value, index) pairs and keeping the larger value, the smaller index on a tie. -/
module

public import Idealize.ShloMosaic.Lib.Pointwise
public import Idealize.ShloMosaic.Lib.ReduceAll

@[expose] public section

noncomputable section

namespace Cert.Sampler

open Idealize.ShloMosaic

/-- `p` is the first index at which `f` is largest. -/
def FirstMax {N : ℕ} (f : Fin N → EReal) (p : Fin N) : Prop := (∀ i, f i ≤ f p) ∧ ∀ i, f i = f p → p ≤ i

/-- There is only one such index. -/
theorem FirstMax.unique {N : ℕ} {f : Fin N → EReal} {p q : Fin N} (hp : FirstMax f p) (hq : FirstMax f q) : p = q := by
  have e : f p = f q := le_antisymm (hq.1 p) (hp.1 q)
  exact le_antisymm (hp.2 q e.symm) (hq.2 p e)

/-- A nonempty row has a first largest entry. -/
theorem FirstMax.exists {N : ℕ} (hN : 0 < N) (f : Fin N → EReal) : ∃ p, FirstMax f p := by
  haveI : Nonempty (Fin N) := ⟨⟨0, hN⟩⟩
  obtain ⟨m, hm⟩ := Finite.exists_max f
  have hne : (Finset.univ.filter fun i => f i = f m).Nonempty := ⟨m, by simp⟩
  obtain ⟨p, hp, hmin⟩ := Finset.exists_min_image (Finset.univ.filter fun i => f i = f m) id hne
  have hpm : f p = f m := by simpa using hp
  refine ⟨p, fun i => hpm ▸ hm i, fun i hi => hmin i ?_⟩
  simp [hi, hpm]

/-- The signed minimum of two words below `2 ^ 31` is the word of the smaller number. -/
theorem minsi_small {a b : ℕ} (ha : a < 2 ^ 31) (hb : b < 2 ^ 31) :
    IntOp.minsi (BitVec.ofNat 32 a) (BitVec.ofNat 32 b) = BitVec.ofNat 32 (min a b) := by
  have h : (BitVec.ofNat 32 a).slt (BitVec.ofNat 32 b) = decide (a < b) := by
    rw [BitVec.slt_eq_decide]
    rw [BitVec.toInt_eq_toNat_of_lt (by rw [BitVec.toNat_ofNat]; omega), BitVec.toInt_eq_toNat_of_lt (by rw [BitVec.toNat_ofNat]; omega),
      BitVec.toNat_ofNat, BitVec.toNat_ofNat]
    congr 1
    rw [Nat.mod_eq_of_lt (by omega), Nat.mod_eq_of_lt (by omega)]
    simp
  unfold IntOp.minsi
  rw [h]
  rcases lt_or_ge a b with hab | hab
  · simp [hab, min_eq_left hab.le]
  · simp [not_lt.2 hab, min_eq_right hab]

/-- The running signed minimum of small words is the word of the running minimum of the numbers. -/
theorem fold_minsi {ι : Type} (s : Finset ι) (g : ι → ℕ) (hg : ∀ i, g i < 2 ^ 31) :
    Finset.fold IntOp.minsi 2147483647#32 (fun i => BitVec.ofNat 32 (g i)) s = BitVec.ofNat 32 (Finset.fold min 2147483647 g s)
      ∧ Finset.fold min 2147483647 g s < 2 ^ 31 := by
  classical
  induction s using Finset.induction_on with
  | empty => simp
  | insert i s hi ih =>
    rw [Finset.fold_insert hi, Finset.fold_insert hi, ih.1]
    exact ⟨minsi_small (hg i) ih.2, lt_of_le_of_lt (min_le_left _ _) (hg i)⟩

/-- The kernel's choice among 64 lanes: every lane equal to the row's maximum offers its own number, every other lane offers
    64, and the least offer is taken. When the lanes from 56 on are no larger than lane 0 this is the first largest of the
    first 56. -/
theorem lane_pick (L : Fin 64 → EReal) (s : Fin 56 → EReal) (p : Fin 56) (hp : FirstMax s p)
    (hL : ∀ n : Fin 56, L ⟨n, by omega⟩ = s n) (hpad : ∀ n : Fin 64, 56 ≤ (n : ℕ) → L n ≤ s 0) :
    Finset.fold IntOp.minsi 2147483647#32
        (fun n : Fin 64 => if L n = Finset.fold max (⊥ : EReal) L Finset.univ then BitVec.ofNat 32 n else 64#32) Finset.univ
      = BitVec.ofNat 32 p := by
  have hmax : ∀ n : Fin 64, L n ≤ s p := fun n => by
    rcases lt_or_ge (n : ℕ) 56 with h | h
    · exact (hL ⟨n, h⟩).le.trans (hp.1 _)
    · exact (hpad n h).trans (hp.1 _)
  have hM : Finset.fold max (⊥ : EReal) L Finset.univ = s p := by
    refine le_antisymm ((Finset.fold_max_le _).2 ⟨bot_le, fun n _ => hmax n⟩) ?_
    exact Finset.le_fold_max _ |>.2 (Or.inr ⟨⟨p, by omega⟩, Finset.mem_univ _, (hL p).ge⟩)
  rw [hM]
  have e : (fun n : Fin 64 => if L n = s p then BitVec.ofNat 32 n else 64#32)
      = fun n : Fin 64 => BitVec.ofNat 32 (if L n = s p then (n : ℕ) else 64) := by
    funext n; split_ifs <;> rfl
  rw [e, (fold_minsi Finset.univ _ fun n => by split_ifs <;> omega).1]
  congr 1
  refine le_antisymm ?_ ?_
  · refine Finset.fold_min_le _ |>.2 (Or.inr ⟨⟨p, by omega⟩, Finset.mem_univ _, ?_⟩)
    rw [if_pos (hL p)]
  · refine (Finset.le_fold_min _).2 ⟨by omega, fun n _ => ?_⟩
    split_ifs with h
    · rcases lt_or_ge (n : ℕ) 56 with hn | hn
      · exact hp.2 ⟨n, hn⟩ ((hL ⟨n, hn⟩).symm.trans h)
      · omega
    · omega

/-- What one walk over a list of (value, index) pairs keeps: a pair no smaller than any pair seen, with the least index among
    the equal ones, and itself the starting pair or one of those seen. -/
theorem walk_pick (red : EReal × BitVec 32 → EReal × BitVec 32 → EReal × BitVec 32)
    (hred : ∀ (a b : EReal) (i j : ℕ), i < 56 → j < 56 →
      red (a, BitVec.ofNat 32 i) (b, BitVec.ofNat 32 j)
        = if b < a ∨ (a = b ∧ i < j) then (a, BitVec.ofNat 32 i)
          else if a = b then (a, BitVec.ofNat 32 j) else (b, BitVec.ofNat 32 j))
    (f : ℕ → EReal) (l : List ℕ) (hl : ∀ i ∈ l, i < 56) (v0 : EReal) (i0 : ℕ) (h0 : i0 < 56) :
    ∃ v i, List.foldl red (v0, BitVec.ofNat 32 i0) (l.map fun n => (f n, BitVec.ofNat 32 n)) = (v, BitVec.ofNat 32 i)
      ∧ i < 56 ∧ ((v = v0 ∧ i = i0) ∨ (i ∈ l ∧ v = f i)) ∧ v0 ≤ v ∧ (v = v0 → i ≤ i0)
      ∧ ∀ n ∈ l, f n ≤ v ∧ (f n = v → i ≤ n) := by
  induction l generalizing v0 i0 with
  | nil => exact ⟨v0, i0, rfl, h0, Or.inl ⟨rfl, rfl⟩, le_rfl, fun _ => le_rfl, by simp⟩
  | cons n l ih =>
    have hn : n < 56 := hl n (by simp)
    have hl' : ∀ i ∈ l, i < 56 := fun i hi => hl i (by simp [hi])
    rw [List.map_cons, List.foldl_cons, hred _ _ _ _ h0 hn]
    by_cases h1 : f n < v0 ∨ (v0 = f n ∧ i0 < n)
    · rw [if_pos h1]
      obtain ⟨v, i, e, hi, hm, hv, hv', ha⟩ := ih hl' v0 i0 h0
      refine ⟨v, i, e, hi, ?_, hv, hv', ?_⟩
      · rcases hm with hm | hm
        · exact Or.inl hm
        · exact Or.inr ⟨by simp [hm.1], hm.2⟩
      · intro k hk
        rcases List.mem_cons.1 hk with rfl | hk
        · rcases h1 with h1 | ⟨h1, h2⟩
          · exact ⟨h1.le.trans hv, fun h => absurd (h ▸ h1) (not_lt.2 hv)⟩
          · exact ⟨h1 ▸ hv, fun h => (hv' (h1 ▸ h.symm)).trans h2.le⟩
        · exact ha k hk
    · rw [if_neg h1]
      have h2 : v0 ≤ f n := not_lt.1 fun h => h1 (Or.inl h)
      have h3 : v0 = f n → n ≤ i0 := fun h => not_lt.1 fun h' => h1 (Or.inr ⟨h, h'⟩)
      have e0 : (if v0 = f n then (v0, BitVec.ofNat 32 n) else (f n, BitVec.ofNat 32 n)) = (f n, BitVec.ofNat 32 n) := by
        split_ifs with h
        · rw [h]
        · rfl
      rw [e0]
      obtain ⟨v, i, e, hi, hm, hv, hv', ha⟩ := ih hl' (f n) n hn
      refine ⟨v, i, e, hi, ?_, h2.trans hv, ?_, ?_⟩
      · rcases hm with ⟨rfl, rfl⟩ | hm
        · exact Or.inr ⟨by simp, rfl⟩
        · exact Or.inr ⟨by simp [hm.1], hm.2⟩
      · intro h
        have h4 : f n = v0 := le_antisymm (h ▸ hv) h2
        exact (hv' (h.trans h4.symm)).trans (h3 h4.symm)
      · intro k hk
        rcases List.mem_cons.1 hk with rfl | hk
        · exact ⟨hv, fun h => hv' h.symm⟩
        · exact ha k hk

/-- The walk over all 56 candidates from `(⊥, 0)`, in any order that meets each one, ends at the first largest. -/
theorem walk_first (red : EReal × BitVec 32 → EReal × BitVec 32 → EReal × BitVec 32)
    (hred : ∀ (a b : EReal) (i j : ℕ), i < 56 → j < 56 →
      red (a, BitVec.ofNat 32 i) (b, BitVec.ofNat 32 j)
        = if b < a ∨ (a = b ∧ i < j) then (a, BitVec.ofNat 32 i)
          else if a = b then (a, BitVec.ofNat 32 j) else (b, BitVec.ofNat 32 j))
    (s : Fin 56 → EReal) (l : List (EReal × BitVec 32)) (hmem : ∀ q, q ∈ l ↔ ∃ n : Fin 56, q = (s n, BitVec.ofNat 32 n))
    (p : Fin 56) (hp : FirstMax s p) :
    (List.foldl red (⊥, 0#32) l).2 = BitVec.ofNat 32 p := by
  let f : ℕ → EReal := fun n => if h : n < 56 then s ⟨n, h⟩ else ⊥
  have hf : ∀ n : Fin 56, f n = s n := fun n => dif_pos n.isLt
  have hl : l = (l.map fun q => q.2.toNat).map fun n => (f n, BitVec.ofNat 32 n) := by
    rw [List.map_map]
    refine (List.map_id l).symm.trans (List.map_congr_left fun q hq => ?_)
    obtain ⟨n, rfl⟩ := (hmem q).1 hq
    have hn : (BitVec.ofNat 32 (n : ℕ)).toNat = n := by rw [BitVec.toNat_ofNat]; exact Nat.mod_eq_of_lt (by omega)
    show (s n, BitVec.ofNat 32 n) = (f (BitVec.ofNat 32 (n : ℕ)).toNat, BitVec.ofNat 32 (BitVec.ofNat 32 (n : ℕ)).toNat)
    rw [hn, hf]
  have hin : ∀ n : Fin 56, (n : ℕ) ∈ l.map fun q => q.2.toNat := fun n =>
    List.mem_map.2 ⟨(s n, BitVec.ofNat 32 n), (hmem _).2 ⟨n, rfl⟩, by
      show (BitVec.ofNat 32 (n : ℕ)).toNat = n
      rw [BitVec.toNat_ofNat]; exact Nat.mod_eq_of_lt (by omega)⟩
  have hlt : ∀ i ∈ l.map (fun q => q.2.toNat), i < 56 := fun i hi => by
    obtain ⟨q, hq, rfl⟩ := List.mem_map.1 hi
    obtain ⟨n, rfl⟩ := (hmem q).1 hq
    show (BitVec.ofNat 32 (n : ℕ)).toNat < 56
    rw [BitVec.toNat_ofNat]; exact (Nat.mod_le _ _).trans_lt n.isLt
  obtain ⟨v, i, e, hi, hm, -, hv', ha⟩ := walk_pick red hred f _ hlt ⊥ 0 (by omega)
  rw [← hl] at e
  rw [show (0#32 : BitVec 32) = BitVec.ofNat 32 0 from rfl, e]
  have hfi : v = s ⟨i, hi⟩ := by
    rcases hm with ⟨rfl, rfl⟩ | ⟨-, h⟩
    · exact (le_bot_iff.1 ((hf ⟨0, hi⟩) ▸ (ha 0 (hin ⟨0, hi⟩)).1)).symm
    · exact h.trans (hf ⟨i, hi⟩)
  have hq : FirstMax s ⟨i, hi⟩ := ⟨fun n => by rw [← hfi, ← hf n]; exact (ha n (hin n)).1,
    fun n hn => (ha n (hin n)).2 (by rw [hf n, hn, hfi])⟩
  rw [hp.unique hq]

end Cert.Sampler

end
-- ==== Proof.RefScores.lean ====
/- The reference's stages read at an index: the batch with the drawn flips, the candidates, the scores, the choice and the
   chosen candidate. -/
module

public import proofs.«01_k».proof.Proof.TableValues
public import proofs.«01_k».proof.Proof.Pick

@[expose] public section

set_option maxRecDepth 16384

noncomputable section

namespace Cert.Sampler

open Idealize.ShloMosaic
open Cert.ReferenceIdeal Cert.ReferenceIdeal.Gen Cert.ReferenceIdeal.Facts

/-- The first ten columns with the drawn flips made. -/
theorem flipped_at (x : FVec Ideal S64x4096 .f32) (b : Fin 64) (k : Fin 10) :
    flipped x (ix2 b k) = flip (drawn (ix2 b k)) (x (ix2 b ⟨k, by omega⟩)) := by
  pointwise [flipped, flip]

/-- A candidate at a column. -/
theorem candidates_at (x : FVec Ideal S64x4096 .f32) (b : Fin 64) (n : Fin 56) (k : Fin 4096) :
    candidates x (ix3 b n k) = if h : (k : ℕ) < 10 then flip (ball (ix2 n ⟨k, h⟩)) (flipped x (ix2 b ⟨k, h⟩)) else x (ix2 b k) := by
  pointwise [candidates, heads, flip]
  split_ifs with h
  · rfl
  all_goals
    have e : 10 + ((k : ℕ) - 10) = k := by omega
    exact congrArg (fun c => x (ix2 b c)) (Fin.ext e)

/-- The network's score of a candidate. -/
theorem scores_at (x : FVec Ideal S64x4096 .f32) (w : FVec Ideal S4096x64 .f32) (w2 : FVec Ideal S64 .f32) (b : Fin 64) (n : Fin 56) :
    scores x w w2 (ix2 b n) = ∑ h, max (∑ k, candidates x (ix3 b n k) * w (ix2 k h)) 0 * w2 (ix1 h) := by
  pointwise [scores]

/-- One step of the reference's reduction: keep the pair with the larger value, the smaller index on a tie. -/
theorem step_at (a c : EReal) (i j : ℕ) (hi : i < 56) (hj : j < 56) :
    reducer_argmax_f32_i32 (F := Ideal) (a, BitVec.ofNat 32 i) (c, BitVec.ofNat 32 j)
      = if c < a ∨ (a = c ∧ i < j) then (a, BitVec.ofNat 32 i)
        else if a = c then (a, BitVec.ofNat 32 j) else (c, BitVec.ofNat 32 j) := by
  have hs : (BitVec.ofNat 32 i).slt (BitVec.ofNat 32 j) = decide (i < j) := by
    rw [BitVec.slt_eq_decide]
    rw [BitVec.toInt_eq_toNat_of_lt (by rw [BitVec.toNat_ofNat]; omega), BitVec.toInt_eq_toNat_of_lt (by rw [BitVec.toNat_ofNat]; omega),
      BitVec.toNat_ofNat, BitVec.toNat_ofNat]
    congr 1
    rw [Nat.mod_eq_of_lt (by omega), Nat.mod_eq_of_lt (by omega)]
    simp
  unfold reducer_argmax_f32_i32
  simp only [Ideal.cmpf_def, Ideal.cmp, IntOp.cmpi, hs]
  rcases lt_trichotomy c a with h | h | h
  · simp [h, h.ne', Scalar.select, IntOp.ori, IntOp.andi]
  · subst h
    by_cases hij : i < j
    · simp [hij, Scalar.select, IntOp.ori, IntOp.andi]
    · simp [hij, Scalar.select, IntOp.ori, IntOp.andi]
  · simp [h.not_gt, h.ne, Scalar.select, IntOp.ori, IntOp.andi]

/-- The reference's choice is the first candidate whose score with its noise is the largest. -/
theorem choice_at (x : FVec Ideal S64x4096 .f32) (w : FVec Ideal S4096x64 .f32) (w2 : FVec Ideal S64 .f32) (b : Fin 64) (p : Fin 56)
    (hp : FirstMax (fun n : Fin 56 => scores x w w2 (ix2 b n) + noise (ix2 b n)) p) :
    choice x w w2 (ix1 b) = BitVec.ofNat 32 p := by
  unfold choice
  rw [Ideal.argReduce_eq_reduce2, Host.reduce2_eq_foldl_fiber]
  have e0 : ((constant S_ .f32 0xFF800000#32 : FVec Ideal S_ .f32) (Shape.Idx.first h_S_), (constantI S_ 32 0#32) (Shape.Idx.first h_S_))
      = ((⊥ : EReal), 0#32) := Prod.ext bot_bits rfl
  refine (congrArg (fun q => (List.foldl (reducer_argmax_f32_i32 (F := Ideal)) q _).2) e0).trans ?_
  refine walk_first _ step_at (fun n : Fin 56 => scores x w w2 (ix2 b n) + noise (ix2 b n)) _ (fun q => ?_) p hp
  unfold Host.argReduceFiber
  rw [List.mem_map]
  constructor
  · rintro ⟨m, hm, rfl⟩
    obtain ⟨i, rfl⟩ := S64x56.rowMajor.surjective m
    have hd : reducesTo_S64x56_S64_d1.drop i = ix1 b := by simpa using (List.mem_filter.1 hm).2
    have hb : (i 0 : ℕ) = b := by
      have := congrArg (fun v : S64.Idx => ((v 0 : Fin _) : ℕ)) hd
      rw [← Shape.ReducesTo.drop_apply_val_of_eq reducesTo_S64x56_S64_d1 i 0 0 (by decide) (by decide)]
      exact this
    refine ⟨i 1, ?_⟩
    have ei : i = ix2 b (i 1) := by
      funext a
      fin_cases a
      · exact Fin.ext hb
      · rfl
    rw [Equiv.symm_apply_apply, ei]
    rfl
  · rintro ⟨n, rfl⟩
    refine ⟨S64x56.rowMajor (ix2 b n), List.mem_filter.2 ⟨List.mem_finRange _, ?_⟩, by rw [Equiv.symm_apply_apply]; rfl⟩
    rw [Equiv.symm_apply_apply]
    simp only [decide_eq_true_eq]
    funext a
    fin_cases a
    apply Fin.ext
    exact Shape.ReducesTo.drop_apply_val_of_eq reducesTo_S64x56_S64_d1 (ix2 b n) 0 0 (by decide) (by decide)

/-- The reference's result is the chosen candidate. -/
theorem refOut_at (x : FVec Ideal S64x4096 .f32) (w : FVec Ideal S4096x64 .f32) (w2 : FVec Ideal S64 .f32) (b : Fin 64) (k : Fin 4096)
    (p : Fin 56) (hp : choice x w w2 (ix1 b) = BitVec.ofNat 32 p) :
    refOut x w w2 (ix2 b k) = candidates x (ix3 b p k) := by
  pointwise [refOut]
  rw [Finset.sum_eq_single p]
  · have e : oneHot (choice x w w2) (ix2 b p) = 1 := by
      pointwise [oneHot]
      rw [hp]
      show ((((IntOp.cmpi .eq (BitVec.ofNat 32 (p : ℕ)) (BitVec.ofNat 32 (p : ℕ))).toNat : ℝ)) : EReal) = 1
      rw [IntOp.cmpi_eq.2 rfl]
      norm_num
    rw [e, mul_one]
  · intro n _ hn
    have e : oneHot (choice x w w2) (ix2 b n) = 0 := by
      pointwise [oneHot]
      rw [hp]
      show ((((IntOp.cmpi .eq (BitVec.ofNat 32 (p : ℕ)) (BitVec.ofNat 32 (n : ℕ))).toNat : ℝ)) : EReal) = 0
      have hne : BitVec.ofNat 32 (p : ℕ) ≠ BitVec.ofNat 32 (n : ℕ) := fun h => hn (Fin.ext (by
        have := congrArg BitVec.toNat h
        rw [BitVec.toNat_ofNat, BitVec.toNat_ofNat] at this
        omega))
      have hb : (BitVec.ofNat 32 (p : ℕ) == BitVec.ofNat 32 (n : ℕ)) = false := by rwa [beq_eq_false_iff_ne]
      have h0 : IntOp.cmpi .eq (BitVec.ofNat 32 (p : ℕ)) (BitVec.ofNat 32 (n : ℕ)) = 0#1 := by
        simp only [IntOp.cmpi, hb]; rfl
      rw [h0]
      norm_num
    rw [e, mul_zero]
  · intro h; exact absurd (Finset.mem_univ _) h

end Cert.Sampler

end
-- ==== Proof.Equation.lean ====
/- The kernel's result and the reference's, entry by entry: the lanes' scores are the candidates' scores, so the choices
   agree, and the kernel's signed step at the choice is the chosen candidate. -/
module

public import proofs.«01_k».proof.Proof.KernelScores
public import proofs.«01_k».proof.Proof.RefScores

@[expose] public section

set_option maxRecDepth 16384

noncomputable section

namespace Cert.Sampler

open Idealize.ShloMosaic
open Cert.KernelIdeal Cert.KernelIdeal.Gen

/-- In the first ten columns the two programs flip the batch alike. -/
theorem pay5_flipped (x : FVec Ideal S64x4096 .f32) (b : Fin 64) (k : Fin 10) :
    k0_pay5 x tabChanges (ix2 b ⟨k, by omega⟩) = flipped x (ix2 b k) := by
  rw [pay5_at, tabChanges_drawn, flipped_at]

/-- The flipped batch is real wherever the batch is. -/
theorem flipped_real (x : FVec Ideal S64x4096 .f32)
    (hx : ∀ (b : Fin 64) (k : Fin 4096), (k : ℕ) < 128 → Real' (x (ix2 b k))) (b : Fin 64) (k : Fin 10) :
    Real' (flipped x (ix2 b k)) := by
  rw [flipped_at]
  exact flip_real (drawn_bit b k) (hx b _ (by show (k : ℕ) < 128; omega))

variable (x : FVec Ideal S64x4096 .f32) (w : FVec Ideal S4096x64 .f32) (w2 : FVec Ideal S64 .f32)
  (hx : ∀ (b : Fin 64) (k : Fin 4096), (k : ℕ) < 128 → Real' (x (ix2 b k)))
  (hw : ∀ (k : Fin 4096) (h : Fin 64), (k : ℕ) < 10 → Real' (w (ix2 k h)))

include hx hw in
/-- The hidden sum of a lane below 56 is that candidate's. -/
theorem hidden_candidate (b h : Fin 64) (n : Fin 56) :
    ∑ k, k0_pay7 (F := Ideal) x (weightsT w) tabChanges (ix3 b h k) * tabExt (ix2 ⟨n, by omega⟩ k)
      = ∑ k, candidates x (ix3 b n k) * w (ix2 k h) := by
  rw [hidden x w hx hw b h ⟨n, by omega⟩ fun k hk => by
    have e := ball_bit n ⟨k, hk⟩
    rwa [← tabExt_ball n ⟨k, hk⟩] at e]
  refine Finset.sum_congr rfl fun k _ => ?_
  rw [candidates_at]
  congr 1
  split_ifs with hk
  · have e1 := tabExt_ball n ⟨k, hk⟩
    have e2 := pay5_flipped x b ⟨k, hk⟩
    rw [← e1, ← e2]
  · rfl

include hx hw in
/-- The hidden sum of a padded lane is candidate 0's. -/
theorem hidden_pad (b h n : Fin 64) (hn : 56 ≤ (n : ℕ)) :
    ∑ k, k0_pay7 (F := Ideal) x (weightsT w) tabChanges (ix3 b h k) * tabExt (ix2 n k)
      = ∑ k, candidates x (ix3 b 0 k) * w (ix2 k h) := by
  rw [hidden x w hx hw b h n fun k hk => Or.inl (tabExt_pad n hn ⟨k, hk⟩)]
  refine Finset.sum_congr rfl fun k _ => ?_
  rw [candidates_at]
  congr 1
  split_ifs with hk
  · have e1 := tabExt_pad n hn ⟨k, hk⟩
    have e2 := pay5_flipped x b ⟨k, hk⟩
    rw [ball_first, ← e1, ← e2]
  · rfl

include hx hw in
/-- The score of a lane below 56 is that candidate's. -/
theorem laneScore_candidate (b : Fin 64) (n : Fin 56) :
    laneScore x w w2 b ⟨n, by omega⟩ = scores x w w2 (ix2 b n) + noise (ix2 b n) := by
  unfold laneScore
  rw [scores_at, tabNoise_noise]
  congr 1
  refine Finset.sum_congr rfl fun h _ => ?_
  rw [hidden_candidate x w hx hw b h n, mul_comm]

include hx hw in
/-- The score of a padded lane is at most candidate 0's. -/
theorem laneScore_pad (b n : Fin 64) (hn : 56 ≤ (n : ℕ)) :
    laneScore x w w2 b n ≤ scores x w w2 (ix2 b 0) + noise (ix2 b 0) := by
  unfold laneScore
  rw [scores_at]
  refine add_le_add (le_of_eq (Finset.sum_congr rfl fun h _ => ?_)) (tabNoise_pad b n hn)
  rw [hidden_pad x w hx hw b h n hn, mul_comm]

include hx hw in
/-- The two programs choose the same candidate. -/
theorem picks (b : Fin 64) : ∃ p : Fin 56, kernelPick x w w2 (ix2 b 0) = BitVec.ofNat 32 p
    ∧ choice x w w2 (ix1 b) = BitVec.ofNat 32 p := by
  obtain ⟨p, hp⟩ := FirstMax.exists (by omega) fun n : Fin 56 => scores x w w2 (ix2 b n) + noise (ix2 b n)
  refine ⟨p, ?_, choice_at x w w2 b p hp⟩
  rw [kernelPick_at]
  exact lane_pick (laneScore x w w2 b) _ p hp (laneScore_candidate x w w2 hx hw b) (laneScore_pad x w w2 hx hw b)

/-- The kernel's first 128 columns: the flipped batch plus the chosen candidate's signed step. -/
theorem kernelHead_at (b : Fin 64) (k : Fin 128) (p : Fin 56) (hp : kernelPick x w w2 (ix2 b 0) = BitVec.ofNat 32 p) :
    kernelHead x w w2 (ix2 b k) = k0_pay5 x tabChanges (ix2 b k)
      + tabSel (ix2 ⟨p, by omega⟩ k) * (1 - 2 * k0_pay5 x tabChanges (ix2 b k)) := by
  have hsum : ∑ n : Fin 64, ((((BitVec.setWidth 32 (IntOp.cmpi .eq (BitVec.ofNat 32 (n : ℕ)) (kernelPick x w w2 (ix2 b 0)))).toInt : ℝ)) : EReal)
      * tabSel (ix2 n k) = tabSel (ix2 ⟨p, by omega⟩ k) := by
    rw [hp, Finset.sum_eq_single ⟨p, by omega⟩]
    · rw [IntOp.cmpi_eq.2 rfl, show (BitVec.setWidth 32 (1#1)).toInt = 1 by decide]
      norm_num
    · intro n _ hn
      have hne : BitVec.ofNat 32 (n : ℕ) ≠ BitVec.ofNat 32 (p : ℕ) := fun h => hn (Fin.ext (by
        have := congrArg BitVec.toNat h
        rw [BitVec.toNat_ofNat, BitVec.toNat_ofNat] at this
        show (n : ℕ) = p
        omega))
      have hb : (BitVec.ofNat 32 (n : ℕ) == BitVec.ofNat 32 (p : ℕ)) = false := by rwa [beq_eq_false_iff_ne]
      have h0 : IntOp.cmpi .eq (BitVec.ofNat 32 (n : ℕ)) (BitVec.ofNat 32 (p : ℕ)) = 0#1 := by
        simp only [IntOp.cmpi, hb]; rfl
      rw [h0, show (BitVec.setWidth 32 (0#1)).toInt = 0 by decide]
      norm_num
    · intro h; exact absurd (Finset.mem_univ _) h
  have hread : kernelHead x w w2 (ix2 b k) = k0_pay5 x tabChanges (ix2 b k)
      + (∑ n : Fin 64, ((((BitVec.setWidth 32 (IntOp.cmpi .eq (BitVec.ofNat 32 (n : ℕ)) (kernelPick x w w2 (ix2 b 0)))).toInt : ℝ)) : EReal)
        * tabSel (ix2 n k)) * k0_pay6 x tabChanges (ix2 b k) := by
    unfold kernelHead
    pointwise [k0_pay1]
    rfl
  rw [hread, hsum, pay6_at]

include hx hw in
/-- The kernel's result is the reference's at every entry. -/
theorem out_at (b : Fin 64) (k : Fin 4096) : kernelOut x w w2 (ix2 b k) = refOut x w w2 (ix2 b k) := by
  obtain ⟨p, hk, hr⟩ := picks x w w2 hx hw b
  rw [refOut_at x w w2 b k p hr, candidates_at]
  have ek : kernelOut x w w2 (ix2 b k) = if h : (k : ℕ) < 128 then kernelHead x w w2 (ix2 b ⟨k, h⟩) else x (ix2 b k) := rfl
  rw [ek]
  by_cases h10 : (k : ℕ) < 10
  · have h128 : (k : ℕ) < 128 := by omega
    rw [dif_pos h128, dif_pos h10, kernelHead_at x w w2 b _ p hk]
    have e1 := tabSel_ball p ⟨k, h10⟩
    have e2 := pay5_flipped x b ⟨k, h10⟩
    have e3 := flip_eq_step (ball_bit p ⟨k, h10⟩) (flipped_real x hx b ⟨k, h10⟩)
    rw [← e1, ← e2] at e3
    rw [← e1, ← e2]
    exact e3
  · rw [dif_neg h10]
    by_cases h128 : (k : ℕ) < 128
    · rw [dif_pos h128, kernelHead_at x w w2 b _ p hk, tabSel_rest p ⟨k, h128⟩ (by show 10 ≤ (k : ℕ); omega), zero_mul, add_zero,
        pay5_rest x b ⟨k, h128⟩ (by show 10 ≤ (k : ℕ); omega)]
    · rw [dif_neg h128]

include hx hw in
/-- The kernel's result array is the reference's. -/
theorem out_eq : kernelOut x w w2 = refOut x w w2 := by
  funext j
  rw [eq_ix2 j]
  exact out_at x w w2 hx hw _ _

end Cert.Sampler

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_flippable
public import proofs.«01_k».proof.Proof.Gen.KernelIdeal.Value
public import proofs.«01_k».proof.Proof.KernelRun
public import proofs.«01_k».proof.Proof.RefRun
public import proofs.«01_k».proof.Proof.Finite
public import proofs.«01_k».proof.Proof.Equation
public import Idealize.ShloMosaic.Lib.Claim
public import Idealize.ShloMosaic.Lib.StableHlo.RunHlo
public import Idealize.ShloMosaic.Adequacy
public import Idealize.ShloMosaic.Init

@[expose] public section

set_option maxRecDepth 16384

noncomputable section

namespace Cert.Proof

open Idealize.ShloMosaic Idealize.SL.Sem

/-- The reference ends with its arguments unchanged and every counter at zero. -/
theorem reference_frame : Cert.quiescent_ReferenceIdeal := by
  intro m g _
  exact θ_run_mono (Cert.Sampler.ref_run m g) fun r h => ⟨fun c => (h c).2, sem_eq_zero_of_no_sems (by decide) r.2⟩

/-- Under the precondition the kernel and the reference leave the same result. -/
theorem same_result : algebraic_KernelIdeal_ReferenceIdeal_pre_flippable (hKernelIdeal := Cert.KernelIdeal.Gen.facts)
    (hReferenceIdeal := Cert.ReferenceIdeal.Gen.facts) (hPre_flippable := Cert.Pre_flippable.Gen.facts) := by
  intro m g m' g' hpre hargs
  refine ⟨fun c => (Cert.KernelIdeal.Gen.dats m 0 c).arrAt 4 Cert.KernelIdeal.cfg0.N, ?_, ?_⟩
  · run_from Cert.KernelIdeal.Value.run_blocks m g
  · run_from Cert.Sampler.ref_run m' g'
    obtain ⟨h0, h1, h2⟩ := hargs c
    rw [h0, h1, h2, Cert.Sampler.kernel_final]
    exact (Cert.Sampler.out_eq _ _ _ (Cert.Sampler.real_x _ _ _ (hpre c)) (Cert.Sampler.real_w _ _ _ (hpre c))).symm

/-- The certificate. -/
theorem claim : Cert.Claim := ⟨Cert.Kernel.Gen.facts, Cert.KernelIdeal.Gen.facts, Cert.ReferenceIdeal.Gen.facts, Cert.Pre_flippable.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  trivial,
  same_result⟩

end Cert.Proof

end
